-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_flows [hPre_finite_flows : Cert.Pre_finite_flows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_flows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_flows [hPre_finite_flows : Cert.Pre_finite_flows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_flows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_flows [hKernelIdeal : Cert.KernelIdeal.Facts] [hPre_finite_flows : Cert.Pre_finite_flows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_flows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_flows [hReferenceIdeal : Cert.ReferenceIdeal.Facts] [hPre_finite_flows : Cert.Pre_finite_flows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_flows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_flows [hKernelIdeal : Cert.KernelIdeal.Facts] [hReferenceIdeal : Cert.ReferenceIdeal.Facts] [hPre_finite_flows : Cert.Pre_finite_flows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_flows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_flows : Cert.Pre_finite_flows.Facts),
    quiescent_Kernel (hKernel := hKernel)
    ∧ quiescent_KernelIdeal (hKernelIdeal := hKernelIdeal)
    ∧ quiescent_KernelIdeal_pre_finite_flows (hKernelIdeal := hKernelIdeal) (hPre_finite_flows := hPre_finite_flows)
    ∧ quiescent_ReferenceIdeal (hReferenceIdeal := hReferenceIdeal)
    ∧ quiescent_ReferenceIdeal_pre_finite_flows (hReferenceIdeal := hReferenceIdeal) (hPre_finite_flows := hPre_finite_flows)
    ∧ preserves_Kernel_KernelIdeal
    ∧ algebraic_KernelIdeal_ReferenceIdeal_pre_finite_flows (hKernelIdeal := hKernelIdeal) (hReferenceIdeal := hReferenceIdeal) (hPre_finite_flows := hPre_finite_flows)
-- ==== Pre_finite_flows.lean ====
abbrev S2x32x2x64x64 : Shape := ⟨5, ![2, 32, 2, 64, 64]⟩
abbrev S2x32x8x64x64 : Shape := ⟨5, ![2, 32, 8, 64, 64]⟩
abbrev S_ : Shape := ⟨0, ![]⟩

class Facts : Prop where
  bcast_S_S2x32x2x64x64 : S_.BroadcastsInDim S2x32x2x64x64 (![] : Fin 0 → Fin S2x32x2x64x64.rank)

variable [Facts]

def fn {F : FTy → Type} [FloatOps F] (main_arg0 : FVec F S2x32x2x64x64 .f32) (main_arg1 : FVec F S2x32x8x64x64 .f32) : IVec S2x32x2x64x64 1 :=
  let main_v0 : FVec F S2x32x2x64x64 .f32 := Host.absf main_arg0
  let main_cst : FVec F S_ .f32 := constant S_ .f32 0x7F800000#32
  let main_v1 : FVec F S2x32x2x64x64 .f32 := broadcastInDim S2x32x2x64x64 ![] bcast_S_S2x32x2x64x64 main_cst
  let main_v2 : IVec S2x32x2x64x64 1 := cmpf .olt main_v0 main_v1
  main_v2
-- ==== Kernel.lean ====
abbrev S2x32x2x64x64 : Shape := ⟨5, ![2, 32, 2, 64, 64]⟩
abbrev S2x32x8x64x64 : Shape := ⟨5, ![2, 32, 8, 64, 64]⟩
abbrev S2x32x512x64 : Shape := ⟨4, ![2, 32, 512, 64]⟩
abbrev S2x32x8x4096 : Shape := ⟨4, ![2, 32, 8, 4096]⟩
abbrev S2x32x2x1x4096 : Shape := ⟨5, ![2, 32, 2, 1, 4096]⟩
abbrev S1x32x2x1x4096 : Shape := ⟨5, ![1, 32, 2, 1, 4096]⟩
abbrev S1x32x512x64 : Shape := ⟨4, ![1, 32, 512, 64]⟩
abbrev S1x1x8x4096 : Shape := ⟨4, ![1, 1, 8, 4096]⟩
abbrev S1x4096 : Shape := ⟨2, ![1, 4096]⟩
abbrev S64x4096 : Shape := ⟨2, ![64, 4096]⟩
abbrev S8x512 : Shape := ⟨2, ![8, 512]⟩
abbrev S8x4096 : Shape := ⟨2, ![8, 4096]⟩
abbrev S1x1x1x1x4096 : Shape := ⟨5, ![1, 1, 1, 1, 4096]⟩
abbrev S1x1x512x64 : Shape := ⟨4, ![1, 1, 512, 64]⟩
abbrev S512x64 : Shape := ⟨2, ![512, 64]⟩
abbrev S512x4096 : Shape := ⟨2, ![512, 4096]⟩
abbrev S8x64x4096 : Shape := ⟨3, ![8, 64, 4096]⟩
abbrev S1x64x4096 : Shape := ⟨3, ![1, 64, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2x32x2x64x64, .f32⟩
  | .hbm, ⟨1, _⟩ => ⟨S2x32x8x64x64, .f32⟩
  | .hbm, ⟨2, _⟩ => ⟨S2x32x8x64x64, .f32⟩
  | .hbm, ⟨3, _⟩ => ⟨S2x32x512x64, .f32⟩
  | .hbm, ⟨4, _⟩ => ⟨S2x32x512x64, .bf16⟩
  | .hbm, ⟨5, _⟩ => ⟨S2x32x8x4096, .f32⟩
  | .hbm, ⟨6, _⟩ => ⟨S2x32x2x1x4096, .f32⟩
  | .hbm, ⟨7, _⟩ => ⟨S2x32x8x4096, .f32⟩
  | .local _ .vmem, ⟨0, _⟩ => ⟨S1x32x2x1x4096, .f32⟩
  | .local _ .vmem, ⟨1, _⟩ => ⟨S1x32x2x1x4096, .f32⟩
  | .local _ .vmem, ⟨2, _⟩ => ⟨S1x32x512x64, .bf16⟩
  | .local _ .vmem, ⟨3, _⟩ => ⟨S1x32x512x64, .bf16⟩
  | .local _ .vmem, ⟨4, _⟩ => ⟨S1x1x8x4096, .f32⟩
  | .local _ .vmem, ⟨5, _⟩ => ⟨S1x1x8x4096, .f32⟩
  | .local _ .vmem, ⟨6, _⟩ => ⟨S1x1x8x4096, .f32⟩
  | .local _ .vmem, ⟨7, _⟩ => ⟨S1x1x8x4096, .f32⟩
  | _, _ => ⟨S2x32x2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_off1 (i : grid0.Coords) : Fin 5 → Nat :=
  let c0_30 : Index := 0#32
  let arg1 : BitVec 32 := BitVec.ofNat 32 (i 1).val
  let v95 : Index := Scalar.indexCast arg1
  let c0_31 : Index := 0#32
  let c0_32 : Index := 0#32
  let c0_33 : Index := 0#32
  ![0, v95.toNat, 0, 0, 0]
def k0_off2 (i : grid0.Coords) : Fin 5 → Nat :=
  let c0_34 : Index := 0#32
  let arg1 : BitVec 32 := BitVec.ofNat 32 (i 1).val
  let v99 : Index := Scalar.indexCast arg1
  let c1 : Index := 1#32
  let c0_35 : Index := 0#32
  let c0_36 : Index := 0#32
  ![0, v99.toNat, 1, 0, 0]
@[reducible] def k0_t1_loop (i : grid0.Coords) : Scf.Loop 32 :=
  let c0_i32_43 : BitVec 32 := 0#32
  let arg1 : BitVec 32 := BitVec.ofNat 32 (i 1).val
  let c0_i32_37 : BitVec 32 := 0#32
  let v104 : BitVec 1 := Scalar.cmpi .sgt arg1 c0_i32_37
  let v105 : BitVec 32 := Scalar.extui v104
  let c0_i32_38 : BitVec 32 := 0#32
  let v106 : BitVec 1 := Scalar.cmpi .slt arg1 c0_i32_38
  let v107 : BitVec 32 := Scalar.extui v106
  let v108 : BitVec 32 := Scalar.subi v105 v107
  let c4_i32 : BitVec 32 := 4#32
  let c0_i32_39 : BitVec 32 := 0#32
  let v109 : BitVec 1 := Scalar.cmpi .sgt c4_i32 c0_i32_39
  let v110 : BitVec 32 := Scalar.extui v109
  let c0_i32_40 : BitVec 32 := 0#32
  let v111 : BitVec 1 := Scalar.cmpi .slt c4_i32 c0_i32_40
  let v112 : BitVec 32 := Scalar.extui v111
  let v113 : BitVec 32 := Scalar.subi v110 v112
  let v114 : BitVec 1 := Scalar.cmpi .ne v108 v113
  let v115 : BitVec 32 := Scalar.remsi arg1 c4_i32
  let c0_i32_41 : BitVec 32 := 0#32
  let v116 : BitVec 1 := Scalar.cmpi .ne v115 c0_i32_41
  let v117 : BitVec 1 := Scalar.andi v114 v116
  let v103 : BitVec 32 := Scalar.divsi arg1 c4_i32
  let c1_i32_42 : BitVec 32 := 1#32
  let v118 : BitVec 32 := Scalar.subi v103 c1_i32_42
  let v119 : BitVec 32 := Scalar.select v117 v118 v103
  let v120 : BitVec 32 := Scalar.subi v119 c0_i32_43
  let c1_i32_44 : BitVec 32 := 1#32
  let v122 : BitVec 32 := Scalar.divsi v120 c1_i32_44
  let v123 : BitVec 32 := Scalar.muli v122 c1_i32_44
  let v124 : BitVec 32 := Scalar.addi c0_i32_43 v123
  let c1_i32_45 : BitVec 32 := 1#32
  ⟨c0_i32_43, v124, c1_i32_45⟩
def k0_off3 (i : grid0.Coords) (k0_t1 : Fin (k0_t1_loop i).trips) (c0_i32_77 : BitVec 32) : Fin 4 → Nat :=
  let c0_78 : Index := 0#32
  let arg1 : BitVec 32 := BitVec.ofNat 32 (i 1).val
  let c1_i32_61 : BitVec 32 := 1#32
  let v147 : BitVec 32 := Scalar.subi arg1 c1_i32_61
  let c4_i32_62 : BitVec 32 := 4#32
  let c0_i32_43 : BitVec 32 := 0#32
  let c1_i32_45 : BitVec 32 := 1#32
  let arg6 : BitVec 32 := Scf.iv c0_i32_43 c1_i32_45 k0_t1
  let v148 : BitVec 32 := Scalar.muli c4_i32_62 arg6
  let v149 : BitVec 32 := Scalar.subi v147 v148
  let v190 : BitVec 32 := Scalar.subi v149 c0_i32_77
  let v191 : Index := Scalar.indexCast v190
  let c0_79 : Index := 0#32
  let c0_80 : Index := 0#32
  ![0, v191.toNat, 0, 0]
def k0_off4 (i : grid0.Coords) (k0_t1 : Fin (k0_t1_loop i).trips) (c0_i32_82 : BitVec 32) : Fin 5 → Nat :=
  let c0_83 : Index := 0#32
  let arg1 : BitVec 32 := BitVec.ofNat 32 (i 1).val
  let c1_i32_61 : BitVec 32 := 1#32
  let v147 : BitVec 32 := Scalar.subi arg1 c1_i32_61
  let c4_i32_62 : BitVec 32 := 4#32
  let c0_i32_43 : BitVec 32 := 0#32
  let c1_i32_45 : BitVec 32 := 1#32
  let arg6 : BitVec 32 := Scf.iv c0_i32_43 c1_i32_45 k0_t1
  let v148 : BitVec 32 := Scalar.muli c4_i32_62 arg6
  let v149 : BitVec 32 := Scalar.subi v147 v148
  let v201 : BitVec 32 := Scalar.subi v149 c0_i32_82
  let v202 : Index := Scalar.indexCast v201
  let c0_84 : Index := 0#32
  let c0_85 : Index := 0#32
  let c0_86 : Index := 0#32
  ![0, v202.toNat, 0, 0, 0]
def k0_off5 (i : grid0.Coords) (k0_t1 : Fin (k0_t1_loop i).trips) (c0_i32_87 : BitVec 32) : Fin 5 → Nat :=
  let c0_88 : Index := 0#32
  let arg1 : BitVec 32 := BitVec.ofNat 32 (i 1).val
  let c1_i32_61 : BitVec 32 := 1#32
  let v147 : BitVec 32 := Scalar.subi arg1 c1_i32_61
  let c4_i32_62 : BitVec 32 := 4#32
  let c0_i32_43 : BitVec 32 := 0#32
  let c1_i32_45 : BitVec 32 := 1#32
  let arg6 : BitVec 32 := Scf.iv c0_i32_43 c1_i32_45 k0_t1
  let v148 : BitVec 32 := Scalar.muli c4_i32_62 arg6
  let v149 : BitVec 32 := Scalar.subi v147 v148
  let v206 : BitVec 32 := Scalar.subi v149 c0_i32_87
  let v207 : Index := Scalar.indexCast v206
  let c1_89 : Index := 1#32
  let c0_90 : Index := 0#32
  let c0_91 : Index := 0#32
  ![0, v207.toNat, 1, 0, 0]
@[reducible] def k0_t2_loop (i : grid0.Coords) : Scf.Loop 32 :=
  let c0_i32_43 : BitVec 32 := 0#32
  let arg1 : BitVec 32 := BitVec.ofNat 32 (i 1).val
  let c0_i32_37 : BitVec 32 := 0#32
  let v104 : BitVec 1 := Scalar.cmpi .sgt arg1 c0_i32_37
  let v105 : BitVec 32 := Scalar.extui v104
  let c0_i32_38 : BitVec 32 := 0#32
  let v106 : BitVec 1 := Scalar.cmpi .slt arg1 c0_i32_38
  let v107 : BitVec 32 := Scalar.extui v106
  let v108 : BitVec 32 := Scalar.subi v105 v107
  let c4_i32 : BitVec 32 := 4#32
  let c0_i32_39 : BitVec 32 := 0#32
  let v109 : BitVec 1 := Scalar.cmpi .sgt c4_i32 c0_i32_39
  let v110 : BitVec 32 := Scalar.extui v109
  let c0_i32_40 : BitVec 32 := 0#32
  let v111 : BitVec 1 := Scalar.cmpi .slt c4_i32 c0_i32_40
  let v112 : BitVec 32 := Scalar.extui v111
  let v113 : BitVec 32 := Scalar.subi v110 v112
  let v114 : BitVec 1 := Scalar.cmpi .ne v108 v113
  let v115 : BitVec 32 := Scalar.remsi arg1 c4_i32
  let c0_i32_41 : BitVec 32 := 0#32
  let v116 : BitVec 1 := Scalar.cmpi .ne v115 c0_i32_41
  let v117 : BitVec 1 := Scalar.andi v114 v116
  let v103 : BitVec 32 := Scalar.divsi arg1 c4_i32
  let c1_i32_42 : BitVec 32 := 1#32
  let v118 : BitVec 32 := Scalar.subi v103 c1_i32_42
  let v119 : BitVec 32 := Scalar.select v117 v118 v103
  let v120 : BitVec 32 := Scalar.subi v119 c0_i32_43
  let c1_i32_44 : BitVec 32 := 1#32
  let v122 : BitVec 32 := Scalar.divsi v120 c1_i32_44
  let v123 : BitVec 32 := Scalar.muli v122 c1_i32_44
  let v124 : BitVec 32 := Scalar.addi c0_i32_43 v123
  let v121 : BitVec 32 := Scalar.addi c0_i32_43 v120
  let c1_i32_46 : BitVec 32 := 1#32
  ⟨v124, v121, c1_i32_46⟩
def k0_off6 (i : grid0.Coords) (k0_t2 : Fin (k0_t2_loop i).trips) (c0_i32_77 : BitVec 32) : Fin 4 → Nat :=
  let c0_78 : Index := 0#32
  let arg1 : BitVec 32 := BitVec.ofNat 32 (i 1).val
  let c1_i32_61 : BitVec 32 := 1#32
  let v147 : BitVec 32 := Scalar.subi arg1 c1_i32_61
  let c4_i32_62 : BitVec 32 := 4#32
  let c0_i32_43 : BitVec 32 := 0#32
  let c0_i32_37 : BitVec 32 := 0#32
  let v104 : BitVec 1 := Scalar.cmpi .sgt arg1 c0_i32_37
  let v105 : BitVec 32 := Scalar.extui v104
  let c0_i32_38 : BitVec 32 := 0#32
  let v106 : BitVec 1 := Scalar.cmpi .slt arg1 c0_i32_38
  let v107 : BitVec 32 := Scalar.extui v106
  let v108 : BitVec 32 := Scalar.subi v105 v107
  let c4_i32 : BitVec 32 := 4#32
  let c0_i32_39 : BitVec 32 := 0#32
  let v109 : BitVec 1 := Scalar.cmpi .sgt c4_i32 c0_i32_39
  let v110 : BitVec 32 := Scalar.extui v109
  let c0_i32_40 : BitVec 32 := 0#32
  let v111 : BitVec 1 := Scalar.cmpi .slt c4_i32 c0_i32_40
  let v112 : BitVec 32 := Scalar.extui v111
  let v113 : BitVec 32 := Scalar.subi v110 v112
  let v114 : BitVec 1 := Scalar.cmpi .ne v108 v113
  let v115 : BitVec 32 := Scalar.remsi arg1 c4_i32
  let c0_i32_41 : BitVec 32 := 0#32
  let v116 : BitVec 1 := Scalar.cmpi .ne v115 c0_i32_41
  let v117 : BitVec 1 := Scalar.andi v114 v116
  let v103 : BitVec 32 := Scalar.divsi arg1 c4_i32
  let c1_i32_42 : BitVec 32 := 1#32
  let v118 : BitVec 32 := Scalar.subi v103 c1_i32_42
  let v119 : BitVec 32 := Scalar.select v117 v118 v103
  let v120 : BitVec 32 := Scalar.subi v119 c0_i32_43
  let c1_i32_44 : BitVec 32 := 1#32
  let v122 : BitVec 32 := Scalar.divsi v120 c1_i32_44
  let v123 : BitVec 32 := Scalar.muli v122 c1_i32_44
  let v124 : BitVec 32 := Scalar.addi c0_i32_43 v123
  let c1_i32_46 : BitVec 32 := 1#32
  let arg6 : BitVec 32 := Scf.iv v124 c1_i32_46 k0_t2
  let v148 : BitVec 32 := Scalar.muli c4_i32_62 arg6
  let v149 : BitVec 32 := Scalar.subi v147 v148
  let v190 : BitVec 32 := Scalar.subi v149 c0_i32_77
  let v191 : Index := Scalar.indexCast v190
  let c0_79 : Index := 0#32
  let c0_80 : Index := 0#32
  ![0, v191.toNat, 0, 0]
def k0_off7 (i : grid0.Coords) (k0_t2 : Fin (k0_t2_loop i).trips) (c0_i32_82 : BitVec 32) : Fin 5 → Nat :=
  let c0_83 : Index := 0#32
  let arg1 : BitVec 32 := BitVec.ofNat 32 (i 1).val
  let c1_i32_61 : BitVec 32 := 1#32
  let v147 : BitVec 32 := Scalar.subi arg1 c1_i32_61
  let c4_i32_62 : BitVec 32 := 4#32
  let c0_i32_43 : BitVec 32 := 0#32
  let c0_i32_37 : BitVec 32 := 0#32
  let v104 : BitVec 1 := Scalar.cmpi .sgt arg1 c0_i32_37
  let v105 : BitVec 32 := Scalar.extui v104
  let c0_i32_38 : BitVec 32 := 0#32
  let v106 : BitVec 1 := Scalar.cmpi .slt arg1 c0_i32_38
  let v107 : BitVec 32 := Scalar.extui v106
  let v108 : BitVec 32 := Scalar.subi v105 v107
  let c4_i32 : BitVec 32 := 4#32
  let c0_i32_39 : BitVec 32 := 0#32
  let v109 : BitVec 1 := Scalar.cmpi .sgt c4_i32 c0_i32_39
  let v110 : BitVec 32 := Scalar.extui v109
  let c0_i32_40 : BitVec 32 := 0#32
  let v111 : BitVec 1 := Scalar.cmpi .slt c4_i32 c0_i32_40
  let v112 : BitVec 32 := Scalar.extui v111
  let v113 : BitVec 32 := Scalar.subi v110 v112
  let v114 : BitVec 1 := Scalar.cmpi .ne v108 v113
  let v115 : BitVec 32 := Scalar.remsi arg1 c4_i32
  let c0_i32_41 : BitVec 32 := 0#32
  let v116 : BitVec 1 := Scalar.cmpi .ne v115 c0_i32_41
  let v117 : BitVec 1 := Scalar.andi v114 v116
  let v103 : BitVec 32 := Scalar.divsi arg1 c4_i32
  let c1_i32_42 : BitVec 32 := 1#32
  let v118 : BitVec 32 := Scalar.subi v103 c1_i32_42
  let v119 : BitVec 32 := Scalar.select v117 v118 v103
  let v120 : BitVec 32 := Scalar.subi v119 c0_i32_43
  let c1_i32_44 : BitVec 32 := 1#32
  let v122 : BitVec 32 := Scalar.divsi v120 c1_i32_44
  let v123 : BitVec 32 := Scalar.muli v122 c1_i32_44
  let v124 : BitVec 32 := Scalar.addi c0_i32_43 v123
  let c1_i32_46 : BitVec 32 := 1#32
  let arg6 : BitVec 32 := Scf.iv v124 c1_i32_46 k0_t2
  let v148 : BitVec 32 := Scalar.muli c4_i32_62 arg6
  let v149 : BitVec 32 := Scalar.subi v147 v148
  let v201 : BitVec 32 := Scalar.subi v149 c0_i32_82
  let v202 : Index := Scalar.indexCast v201
  let c0_84 : Index := 0#32
  let c0_85 : Index := 0#32
  let c0_86 : Index := 0#32
  ![0, v202.toNat, 0, 0, 0]
def k0_off8 (i : grid0.Coords) (k0_t2 : Fin (k0_t2_loop i).trips) (c0_i32_87 : BitVec 32) : Fin 5 → Nat :=
  let c0_88 : Index := 0#32
  let arg1 : BitVec 32 := BitVec.ofNat 32 (i 1).val
  let c1_i32_61 : BitVec 32 := 1#32
  let v147 : BitVec 32 := Scalar.subi arg1 c1_i32_61
  let c4_i32_62 : BitVec 32 := 4#32
  let c0_i32_43 : BitVec 32 := 0#32
  let c0_i32_37 : BitVec 32 := 0#32
  let v104 : BitVec 1 := Scalar.cmpi .sgt arg1 c0_i32_37
  let v105 : BitVec 32 := Scalar.extui v104
  let c0_i32_38 : BitVec 32 := 0#32
  let v106 : BitVec 1 := Scalar.cmpi .slt arg1 c0_i32_38
  let v107 : BitVec 32 := Scalar.extui v106
  let v108 : BitVec 32 := Scalar.subi v105 v107
  let c4_i32 : BitVec 32 := 4#32
  let c0_i32_39 : BitVec 32 := 0#32
  let v109 : BitVec 1 := Scalar.cmpi .sgt c4_i32 c0_i32_39
  let v110 : BitVec 32 := Scalar.extui v109
  let c0_i32_40 : BitVec 32 := 0#32
  let v111 : BitVec 1 := Scalar.cmpi .slt c4_i32 c0_i32_40
  let v112 : BitVec 32 := Scalar.extui v111
  let v113 : BitVec 32 := Scalar.subi v110 v112
  let v114 : BitVec 1 := Scalar.cmpi .ne v108 v113
  let v115 : BitVec 32 := Scalar.remsi arg1 c4_i32
  let c0_i32_41 : BitVec 32 := 0#32
  let v116 : BitVec 1 := Scalar.cmpi .ne v115 c0_i32_41
  let v117 : BitVec 1 := Scalar.andi v114 v116
  let v103 : BitVec 32 := Scalar.divsi arg1 c4_i32
  let c1_i32_42 : BitVec 32 := 1#32
  let v118 : BitVec 32 := Scalar.subi v103 c1_i32_42
  let v119 : BitVec 32 := Scalar.select v117 v118 v103
  let v120 : BitVec 32 := Scalar.subi v119 c0_i32_43
  let c1_i32_44 : BitVec 32 := 1#32
  let v122 : BitVec 32 := Scalar.divsi v120 c1_i32_44
  let v123 : BitVec 32 := Scalar.muli v122 c1_i32_44
  let v124 : BitVec 32 := Scalar.addi c0_i32_43 v123
  let c1_i32_46 : BitVec 32 := 1#32
  let arg6 : BitVec 32 := Scf.iv v124 c1_i32_46 k0_t2
  let v148 : BitVec 32 := Scalar.muli c4_i32_62 arg6
  let v149 : BitVec 32 := Scalar.subi v147 v148
  let v206 : BitVec 32 := Scalar.subi v149 c0_i32_87
  let v207 : Index := Scalar.indexCast v206
  let c1_89 : Index := 1#32
  let c0_90 : Index := 0#32
  let c0_91 : Index := 0#32
  ![0, v207.toNat, 1, 0, 0]
@[reducible] def k0_t3_loop (i : grid0.Coords) : Scf.Loop 32 :=
  let c0_i32_53 : BitVec 32 := 0#32
  let arg1 : BitVec 32 := BitVec.ofNat 32 (i 1).val
  let c4_i32_47 : BitVec 32 := 4#32
  let c0_i32_48 : BitVec 32 := 0#32
  let v127 : BitVec 1 := Scalar.cmpi .eq c4_i32_47 c0_i32_48
  let c1_i32_49 : BitVec 32 := 1#32
  let v128 : BitVec 32 := Scalar.select v127 c1_i32_49 c4_i32_47
  let v129 : BitVec 32 := Scalar.remsi arg1 v128
  let c0_i32_51 : BitVec 32 := 0#32
  let v131 : BitVec 1 := Scalar.cmpi .slt v129 c0_i32_51
  let c0_i32_52 : BitVec 32 := 0#32
  let v132 : BitVec 1 := Scalar.cmpi .slt v128 c0_i32_52
  let v133 : BitVec 1 := Scalar.xori v131 v132
  let c0_i32_50 : BitVec 32 := 0#32
  let v130 : BitVec 1 := Scalar.cmpi .ne v129 c0_i32_50
  let v134 : BitVec 1 := Scalar.andi v133 v130
  let v135 : BitVec 32 := Scalar.addi v129 v128
  let v136 : BitVec 32 := Scalar.select v134 v135 v129
  let v137 : BitVec 32 := Scalar.subi v136 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let c1_i32_55 : BitVec 32 := 1#32
  ⟨c0_i32_53, v141, c1_i32_55⟩
def k0_off9 (i : grid0.Coords) (k0_t3 : Fin (k0_t3_loop i).trips) : Fin 4 → Nat :=
  let c0_82 : Index := 0#32
  let arg1 : BitVec 32 := BitVec.ofNat 32 (i 1).val
  let c4_i32_61 : BitVec 32 := 4#32
  let c0_i32_62 : BitVec 32 := 0#32
  let v147 : BitVec 1 := Scalar.cmpi .eq c4_i32_61 c0_i32_62
  let c1_i32_63 : BitVec 32 := 1#32
  let v148 : BitVec 32 := Scalar.select v147 c1_i32_63 c4_i32_61
  let v149 : BitVec 32 := Scalar.remsi arg1 v148
  let c0_i32_65 : BitVec 32 := 0#32
  let v151 : BitVec 1 := Scalar.cmpi .slt v149 c0_i32_65
  let c0_i32_66 : BitVec 32 := 0#32
  let v152 : BitVec 1 := Scalar.cmpi .slt v148 c0_i32_66
  let v153 : BitVec 1 := Scalar.xori v151 v152
  let c0_i32_64 : BitVec 32 := 0#32
  let v150 : BitVec 1 := Scalar.cmpi .ne v149 c0_i32_64
  let v154 : BitVec 1 := Scalar.andi v153 v150
  let v155 : BitVec 32 := Scalar.addi v149 v148
  let v156 : BitVec 32 := Scalar.select v154 v155 v149
  let c1_i32_67 : BitVec 32 := 1#32
  let v157 : BitVec 32 := Scalar.subi v156 c1_i32_67
  let c0_i32_53 : BitVec 32 := 0#32
  let c1_i32_55 : BitVec 32 := 1#32
  let arg6 : BitVec 32 := Scf.iv c0_i32_53 c1_i32_55 k0_t3
  let v158 : BitVec 32 := Scalar.subi v157 arg6
  let v199 : Index := Scalar.indexCast v158
  let c0_83 : Index := 0#32
  let c0_84 : Index := 0#32
  ![0, v199.toNat, 0, 0]
def k0_off10 (i : grid0.Coords) (k0_t3 : Fin (k0_t3_loop i).trips) : Fin 5 → Nat :=
  let c0_87 : Index := 0#32
  let arg1 : BitVec 32 := BitVec.ofNat 32 (i 1).val
  let c4_i32_61 : BitVec 32 := 4#32
  let c0_i32_62 : BitVec 32 := 0#32
  let v147 : BitVec 1 := Scalar.cmpi .eq c4_i32_61 c0_i32_62
  let c1_i32_63 : BitVec 32 := 1#32
  let v148 : BitVec 32 := Scalar.select v147 c1_i32_63 c4_i32_61
  let v149 : BitVec 32 := Scalar.remsi arg1 v148
  let c0_i32_65 : BitVec 32 := 0#32
  let v151 : BitVec 1 := Scalar.cmpi .slt v149 c0_i32_65
  let c0_i32_66 : BitVec 32 := 0#32
  let v152 : BitVec 1 := Scalar.cmpi .slt v148 c0_i32_66
  let v153 : BitVec 1 := Scalar.xori v151 v152
  let c0_i32_64 : BitVec 32 := 0#32
  let v150 : BitVec 1 := Scalar.cmpi .ne v149 c0_i32_64
  let v154 : BitVec 1 := Scalar.andi v153 v150
  let v155 : BitVec 32 := Scalar.addi v149 v148
  let v156 : BitVec 32 := Scalar.select v154 v155 v149
  let c1_i32_67 : BitVec 32 := 1#32
  let v157 : BitVec 32 := Scalar.subi v156 c1_i32_67
  let c0_i32_53 : BitVec 32 := 0#32
  let c1_i32_55 : BitVec 32 := 1#32
  let arg6 : BitVec 32 := Scf.iv c0_i32_53 c1_i32_55 k0_t3
  let v158 : BitVec 32 := Scalar.subi v157 arg6
  let v210 : Index := Scalar.indexCast v158
  let c0_88 : Index := 0#32
  let c0_89 : Index := 0#32
  let c0_90 : Index := 0#32
  ![0, v210.toNat, 0, 0, 0]
def k0_off11 (i : grid0.Coords) (k0_t3 : Fin (k0_t3_loop i).trips) : Fin 5 → Nat :=
  let c0_91 : Index := 0#32
  let arg1 : BitVec 32 := BitVec.ofNat 32 (i 1).val
  let c4_i32_61 : BitVec 32 := 4#32
  let c0_i32_62 : BitVec 32 := 0#32
  let v147 : BitVec 1 := Scalar.cmpi .eq c4_i32_61 c0_i32_62
  let c1_i32_63 : BitVec 32 := 1#32
  let v148 : BitVec 32 := Scalar.select v147 c1_i32_63 c4_i32_61
  let v149 : BitVec 32 := Scalar.remsi arg1 v148
  let c0_i32_65 : BitVec 32 := 0#32
  let v151 : BitVec 1 := Scalar.cmpi .slt v149 c0_i32_65
  let c0_i32_66 : BitVec 32 := 0#32
  let v152 : BitVec 1 := Scalar.cmpi .slt v148 c0_i32_66
  let v153 : BitVec 1 := Scalar.xori v151 v152
  let c0_i32_64 : BitVec 32 := 0#32
  let v150 : BitVec 1 := Scalar.cmpi .ne v149 c0_i32_64
  let v154 : BitVec 1 := Scalar.andi v153 v150
  let v155 : BitVec 32 := Scalar.addi v149 v148
  let v156 : BitVec 32 := Scalar.select v154 v155 v149
  let c1_i32_67 : BitVec 32 := 1#32
  let v157 : BitVec 32 := Scalar.subi v156 c1_i32_67
  let c0_i32_53 : BitVec 32 := 0#32
  let c1_i32_55 : BitVec 32 := 1#32
  let arg6 : BitVec 32 := Scf.iv c0_i32_53 c1_i32_55 k0_t3
  let v158 : BitVec 32 := Scalar.subi v157 arg6
  let v214 : Index := Scalar.indexCast v158
  let c1_92 : Index := 1#32
  let c0_93 : Index := 0#32
  let c0_94 : Index := 0#32
  ![0, v214.toNat, 1, 0, 0]
@[reducible] def k0_t4_loop (i : grid0.Coords) : Scf.Loop 32 :=
  let c0_i32_53 : BitVec 32 := 0#32
  let arg1 : BitVec 32 := BitVec.ofNat 32 (i 1).val
  let c4_i32_47 : BitVec 32 := 4#32
  let c0_i32_48 : BitVec 32 := 0#32
  let v127 : BitVec 1 := Scalar.cmpi .eq c4_i32_47 c0_i32_48
  let c1_i32_49 : BitVec 32 := 1#32
  let v128 : BitVec 32 := Scalar.select v127 c1_i32_49 c4_i32_47
  let v129 : BitVec 32 := Scalar.remsi arg1 v128
  let c0_i32_51 : BitVec 32 := 0#32
  let v131 : BitVec 1 := Scalar.cmpi .slt v129 c0_i32_51
  let c0_i32_52 : BitVec 32 := 0#32
  let v132 : BitVec 1 := Scalar.cmpi .slt v128 c0_i32_52
  let v133 : BitVec 1 := Scalar.xori v131 v132
  let c0_i32_50 : BitVec 32 := 0#32
  let v130 : BitVec 1 := Scalar.cmpi .ne v129 c0_i32_50
  let v134 : BitVec 1 := Scalar.andi v133 v130
  let v135 : BitVec 32 := Scalar.addi v129 v128
  let v136 : BitVec 32 := Scalar.select v134 v135 v129
  let v137 : BitVec 32 := Scalar.subi v136 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let v138 : BitVec 32 := Scalar.addi c0_i32_53 v137
  let c1_i32_56 : BitVec 32 := 1#32
  ⟨v141, v138, c1_i32_56⟩
def k0_off12 (i : grid0.Coords) (k0_t4 : Fin (k0_t4_loop i).trips) : Fin 4 → Nat :=
  let c0_82 : Index := 0#32
  let arg1 : BitVec 32 := BitVec.ofNat 32 (i 1).val
  let c4_i32_61 : BitVec 32 := 4#32
  let c0_i32_62 : BitVec 32 := 0#32
  let v147 : BitVec 1 := Scalar.cmpi .eq c4_i32_61 c0_i32_62
  let c1_i32_63 : BitVec 32 := 1#32
  let v148 : BitVec 32 := Scalar.select v147 c1_i32_63 c4_i32_61
  let v149 : BitVec 32 := Scalar.remsi arg1 v148
  let c0_i32_65 : BitVec 32 := 0#32
  let v151 : BitVec 1 := Scalar.cmpi .slt v149 c0_i32_65
  let c0_i32_66 : BitVec 32 := 0#32
  let v152 : BitVec 1 := Scalar.cmpi .slt v148 c0_i32_66
  let v153 : BitVec 1 := Scalar.xori v151 v152
  let c0_i32_64 : BitVec 32 := 0#32
  let v150 : BitVec 1 := Scalar.cmpi .ne v149 c0_i32_64
  let v154 : BitVec 1 := Scalar.andi v153 v150
  let v155 : BitVec 32 := Scalar.addi v149 v148
  let v156 : BitVec 32 := Scalar.select v154 v155 v149
  let c1_i32_67 : BitVec 32 := 1#32
  let v157 : BitVec 32 := Scalar.subi v156 c1_i32_67
  let c0_i32_53 : BitVec 32 := 0#32
  let c4_i32_47 : BitVec 32 := 4#32
  let c0_i32_48 : BitVec 32 := 0#32
  let v127 : BitVec 1 := Scalar.cmpi .eq c4_i32_47 c0_i32_48
  let c1_i32_49 : BitVec 32 := 1#32
  let v128 : BitVec 32 := Scalar.select v127 c1_i32_49 c4_i32_47
  let v129 : BitVec 32 := Scalar.remsi arg1 v128
  let c0_i32_51 : BitVec 32 := 0#32
  let v131 : BitVec 1 := Scalar.cmpi .slt v129 c0_i32_51
  let c0_i32_52 : BitVec 32 := 0#32
  let v132 : BitVec 1 := Scalar.cmpi .slt v128 c0_i32_52
  let v133 : BitVec 1 := Scalar.xori v131 v132
  let c0_i32_50 : BitVec 32 := 0#32
  let v130 : BitVec 1 := Scalar.cmpi .ne v129 c0_i32_50
  let v134 : BitVec 1 := Scalar.andi v133 v130
  let v135 : BitVec 32 := Scalar.addi v129 v128
  let v136 : BitVec 32 := Scalar.select v134 v135 v129
  let v137 : BitVec 32 := Scalar.subi v136 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let c1_i32_56 : BitVec 32 := 1#32
  let arg6 : BitVec 32 := Scf.iv v141 c1_i32_56 k0_t4
  let v158 : BitVec 32 := Scalar.subi v157 arg6
  let v199 : Index := Scalar.indexCast v158
  let c0_83 : Index := 0#32
  let c0_84 : Index := 0#32
  ![0, v199.toNat, 0, 0]
def k0_off13 (i : grid0.Coords) (k0_t4 : Fin (k0_t4_loop i).trips) : Fin 5 → Nat :=
  let c0_87 : Index := 0#32
  let arg1 : BitVec 32 := BitVec.ofNat 32 (i 1).val
  let c4_i32_61 : BitVec 32 := 4#32
  let c0_i32_62 : BitVec 32 := 0#32
  let v147 : BitVec 1 := Scalar.cmpi .eq c4_i32_61 c0_i32_62
  let c1_i32_63 : BitVec 32 := 1#32
  let v148 : BitVec 32 := Scalar.select v147 c1_i32_63 c4_i32_61
  let v149 : BitVec 32 := Scalar.remsi arg1 v148
  let c0_i32_65 : BitVec 32 := 0#32
  let v151 : BitVec 1 := Scalar.cmpi .slt v149 c0_i32_65
  let c0_i32_66 : BitVec 32 := 0#32
  let v152 : BitVec 1 := Scalar.cmpi .slt v148 c0_i32_66
  let v153 : BitVec 1 := Scalar.xori v151 v152
  let c0_i32_64 : BitVec 32 := 0#32
  let v150 : BitVec 1 := Scalar.cmpi .ne v149 c0_i32_64
  let v154 : BitVec 1 := Scalar.andi v153 v150
  let v155 : BitVec 32 := Scalar.addi v149 v148
  let v156 : BitVec 32 := Scalar.select v154 v155 v149
  let c1_i32_67 : BitVec 32 := 1#32
  let v157 : BitVec 32 := Scalar.subi v156 c1_i32_67
  let c0_i32_53 : BitVec 32 := 0#32
  let c4_i32_47 : BitVec 32 := 4#32
  let c0_i32_48 : BitVec 32 := 0#32
  let v127 : BitVec 1 := Scalar.cmpi .eq c4_i32_47 c0_i32_48
  let c1_i32_49 : BitVec 32 := 1#32
  let v128 : BitVec 32 := Scalar.select v127 c1_i32_49 c4_i32_47
  let v129 : BitVec 32 := Scalar.remsi arg1 v128
  let c0_i32_51 : BitVec 32 := 0#32
  let v131 : BitVec 1 := Scalar.cmpi .slt v129 c0_i32_51
  let c0_i32_52 : BitVec 32 := 0#32
  let v132 : BitVec 1 := Scalar.cmpi .slt v128 c0_i32_52
  let v133 : BitVec 1 := Scalar.xori v131 v132
  let c0_i32_50 : BitVec 32 := 0#32
  let v130 : BitVec 1 := Scalar.cmpi .ne v129 c0_i32_50
  let v134 : BitVec 1 := Scalar.andi v133 v130
  let v135 : BitVec 32 := Scalar.addi v129 v128
  let v136 : BitVec 32 := Scalar.select v134 v135 v129
  let v137 : BitVec 32 := Scalar.subi v136 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let c1_i32_56 : BitVec 32 := 1#32
  let arg6 : BitVec 32 := Scf.iv v141 c1_i32_56 k0_t4
  let v158 : BitVec 32 := Scalar.subi v157 arg6
  let v210 : Index := Scalar.indexCast v158
  let c0_88 : Index := 0#32
  let c0_89 : Index := 0#32
  let c0_90 : Index := 0#32
  ![0, v210.toNat, 0, 0, 0]
def k0_off14 (i : grid0.Coords) (k0_t4 : Fin (k0_t4_loop i).trips) : Fin 5 → Nat :=
  let c0_91 : Index := 0#32
  let arg1 : BitVec 32 := BitVec.ofNat 32 (i 1).val
  let c4_i32_61 : BitVec 32 := 4#32
  let c0_i32_62 : BitVec 32 := 0#32
  let v147 : BitVec 1 := Scalar.cmpi .eq c4_i32_61 c0_i32_62
  let c1_i32_63 : BitVec 32 := 1#32
  let v148 : BitVec 32 := Scalar.select v147 c1_i32_63 c4_i32_61
  let v149 : BitVec 32 := Scalar.remsi arg1 v148
  let c0_i32_65 : BitVec 32 := 0#32
  let v151 : BitVec 1 := Scalar.cmpi .slt v149 c0_i32_65
  let c0_i32_66 : BitVec 32 := 0#32
  let v152 : BitVec 1 := Scalar.cmpi .slt v148 c0_i32_66
  let v153 : BitVec 1 := Scalar.xori v151 v152
  let c0_i32_64 : BitVec 32 := 0#32
  let v150 : BitVec 1 := Scalar.cmpi .ne v149 c0_i32_64
  let v154 : BitVec 1 := Scalar.andi v153 v150
  let v155 : BitVec 32 := Scalar.addi v149 v148
  let v156 : BitVec 32 := Scalar.select v154 v155 v149
  let c1_i32_67 : BitVec 32 := 1#32
  let v157 : BitVec 32 := Scalar.subi v156 c1_i32_67
  let c0_i32_53 : BitVec 32 := 0#32
  let c4_i32_47 : BitVec 32 := 4#32
  let c0_i32_48 : BitVec 32 := 0#32
  let v127 : BitVec 1 := Scalar.cmpi .eq c4_i32_47 c0_i32_48
  let c1_i32_49 : BitVec 32 := 1#32
  let v128 : BitVec 32 := Scalar.select v127 c1_i32_49 c4_i32_47
  let v129 : BitVec 32 := Scalar.remsi arg1 v128
  let c0_i32_51 : BitVec 32 := 0#32
  let v131 : BitVec 1 := Scalar.cmpi .slt v129 c0_i32_51
  let c0_i32_52 : BitVec 32 := 0#32
  let v132 : BitVec 1 := Scalar.cmpi .slt v128 c0_i32_52
  let v133 : BitVec 1 := Scalar.xori v131 v132
  let c0_i32_50 : BitVec 32 := 0#32
  let v130 : BitVec 1 := Scalar.cmpi .ne v129 c0_i32_50
  let v134 : BitVec 1 := Scalar.andi v133 v130
  let v135 : BitVec 32 := Scalar.addi v129 v128
  let v136 : BitVec 32 := Scalar.select v134 v135 v129
  let v137 : BitVec 32 := Scalar.subi v136 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let c1_i32_56 : BitVec 32 := 1#32
  let arg6 : BitVec 32 := Scf.iv v141 c1_i32_56 k0_t4
  let v158 : BitVec 32 := Scalar.subi v157 arg6
  let v214 : Index := Scalar.indexCast v158
  let c1_92 : Index := 1#32
  let c0_93 : Index := 0#32
  let c0_94 : Index := 0#32
  ![0, v214.toNat, 1, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x2x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x32x2x64x64 : Shape := ⟨5, ![2, 32, 2, 64, 64]⟩
abbrev S2x32x8x64x64 : Shape := ⟨5, ![2, 32, 8, 64, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S2x32x1x2x64x64 : Shape := ⟨6, ![2, 32, 1, 2, 64, 64]⟩
abbrev S2x1x32x2x64x64 : Shape := ⟨6, ![2, 1, 32, 2, 64, 64]⟩
abbrev S2x32x32x2x64x64 : Shape := ⟨6, ![2, 32, 32, 2, 64, 64]⟩
abbrev S2x32x32x1x64x64 : Shape := ⟨6, ![2, 32, 32, 1, 64, 64]⟩
abbrev S2x32x32x64x64 : Shape := ⟨5, ![2, 32, 32, 64, 64]⟩
abbrev S1x1x1x1x64 : Shape := ⟨5, ![1, 1, 1, 1, 64]⟩
abbrev S1x1x1x64x1 : Shape := ⟨5, ![1, 1, 1, 64, 1]⟩
abbrev S2 : Shape := ⟨1, ![2]⟩
abbrev S2x1x1x1x1 : Shape := ⟨5, ![2, 1, 1, 1, 1]⟩
abbrev S32 : Shape := ⟨1, ![32]⟩
abbrev S1x1x32x1x1 : Shape := ⟨5, ![1, 1, 32, 1, 1]⟩
abbrev S2x32x32x64x64x1 : Shape := ⟨6, ![2, 32, 32, 64, 64, 1]⟩
abbrev S2x32x32x64x64x4 : Shape := ⟨6, ![2, 32, 32, 64, 64, 4]⟩
abbrev S2x32x32x64x64x8 : Shape := ⟨6, ![2, 32, 32, 64, 64, 8]⟩
abbrev S1x32 : Shape := ⟨2, ![1, 32]⟩
abbrev S32x1 : Shape := ⟨2, ![32, 1]⟩
abbrev S32x32 : Shape := ⟨2, ![32, 32]⟩
abbrev S1x32x32x1x1x1 : Shape := ⟨6, ![1, 32, 32, 1, 1, 1]⟩
abbrev S2x32x64x64x8 : Shape := ⟨5, ![2, 32, 64, 64, 8]⟩
abbrev S2x32x8x4096 : Shape := ⟨4, ![2, 32, 8, 4096]⟩

abbrev nBuf : Space → Nat
  | .hbm => 339
  | .vmem => 0
  | .smem => 0
  | _ => 0

abbrev hbmTy0_0 (i : Nat) : BufTy := match i % 128 with
  | 0 => ⟨S2x32x2x64x64, .f32⟩
  | 1 => ⟨S2x32x8x64x64, .f32⟩
  | 2 => ⟨S_, .f32⟩
  | 3 => ⟨S_, .f32⟩
  | 4 => ⟨S2x32x2x64x64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64x1, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S1x64, .f32⟩
  | 27 => ⟨S2x32x1x2x64x64, .f32⟩
  | 28 => ⟨S2x1x32x2x64x64, .f32⟩
  | 29 => ⟨S2x32x32x2x64x64, .f32⟩
  | 30 => ⟨S2x32x32x2x64x64, .f32⟩
  | 31 => ⟨S2x32x32x2x64x64, .f32⟩
  | 32 => ⟨S2x32x32x1x64x64, .f32⟩
  | 33 => ⟨S2x32x32x64x64, .f32⟩
  | 34 => ⟨S1x1x1x1x64, .f32⟩
  | 35 => ⟨S2x32x32x64x64, .f32⟩
  | 36 => ⟨S2x32x32x64x64, .f32⟩
  | 37 => ⟨S2x32x32x1x64x64, .f32⟩
  | 38 => ⟨S2x32x32x64x64, .f32⟩
  | 39 => ⟨S1x1x1x64x1, .f32⟩
  | 40 => ⟨S2x32x32x64x64, .f32⟩
  | 41 => ⟨S2x32x32x64x64, .f32⟩
  | 42 => ⟨S_, .f32⟩
  | 43 => ⟨S2x32x32x64x64, .f32⟩
  | 44 => ⟨S2x32x32x64x64, .f32⟩
  | 45 => ⟨S_, .f32⟩
  | 46 => ⟨S_, .f32⟩
  | 47 => ⟨S2x32x32x64x64, .f32⟩
  | 48 => ⟨S2x32x32x64x64, .f32⟩
  | 49 => ⟨S_, .f32⟩
  | 50 => ⟨S2x32x32x64x64, .f32⟩
  | 51 => ⟨S2x32x32x64x64, .i1⟩
  | 52 => ⟨S_, .f32⟩
  | 53 => ⟨S2x32x32x64x64, .f32⟩
  | 54 => ⟨S2x32x32x64x64, .i1⟩
  | 55 => ⟨S_, .f32⟩
  | 56 => ⟨S_, .i1⟩
  | 57 => ⟨S2x32x32x64x64, .i1⟩
  | 58 => ⟨S2x32x32x64x64, .i1⟩
  | 59 => ⟨S2x32x32x64x64, .i1⟩
  | 60 => ⟨S2x32x32x64x64, .f32⟩
  | 61 => ⟨S2x32x32x64x64, .f32⟩
  | 62 => ⟨S2x32x32x64x64, .f32⟩
  | 63 => ⟨S_, .f32⟩
  | 64 => ⟨S2x32x32x64x64, .f32⟩
  | 65 => ⟨S2x32x32x64x64, .f32⟩
  | 66 => ⟨S_, .f32⟩
  | 67 => ⟨S2x32x32x64x64, .f32⟩
  | 68 => ⟨S2x32x32x64x64, .f32⟩
  | 69 => ⟨S_, .f32⟩
  | 70 => ⟨S2x32x32x64x64, .f32⟩
  | 71 => ⟨S2x32x32x64x64, .f32⟩
  | 72 => ⟨S_, .f32⟩
  | 73 => ⟨S2x32x32x64x64, .f32⟩
  | 74 => ⟨S2x32x32x64x64, .f32⟩
  | 75 => ⟨S_, .f32⟩
  | 76 => ⟨S2x32x32x64x64, .f32⟩
  | 77 => ⟨S2x32x32x64x64, .f32⟩
  | 78 => ⟨S_, .f32⟩
  | 79 => ⟨S2x32x32x64x64, .f32⟩
  | 80 => ⟨S2x32x32x64x64, .f32⟩
  | 81 => ⟨S_, .f32⟩
  | 82 => ⟨S2x32x32x64x64, .f32⟩
  | 83 => ⟨S2x32x32x64x64, .f32⟩
  | 84 => ⟨S_, .f32⟩
  | 85 => ⟨S2x32x32x64x64, .f32⟩
  | 86 => ⟨S2x32x32x64x64, .f32⟩
  | 87 => ⟨S_, .f32⟩
  | 88 => ⟨S2x32x32x64x64, .f32⟩
  | 89 => ⟨S2x32x32x64x64, .f32⟩
  | 90 => ⟨S2x32x32x64x64, .f32⟩
  | 91 => ⟨S2x32x32x64x64, .f32⟩
  | 92 => ⟨S2x32x32x64x64, .f32⟩
  | 93 => ⟨S2x32x32x64x64, .f32⟩
  | 94 => ⟨S_, .f32⟩
  | 95 => ⟨S2x32x32x64x64, .f32⟩
  | 96 => ⟨S2x32x32x64x64, .f32⟩
  | 97 => ⟨S_, .f32⟩
  | 98 => ⟨S2x32x32x64x64, .f32⟩
  | 99 => ⟨S2x32x32x64x64, .f32⟩
  | 100 => ⟨S2, .i32⟩
  | 101 => ⟨S2x1x1x1x1, .i32⟩
  | 102 => ⟨S32, .i32⟩
  | 103 => ⟨S1x1x32x1x1, .i32⟩
  | 104 => ⟨S_, .f32⟩
  | 105 => ⟨S2x32x32x64x64, .f32⟩
  | 106 => ⟨S2x32x32x64x64, .i1⟩
  | 107 => ⟨S_, .f32⟩
  | 108 => ⟨S2x32x32x64x64, .f32⟩
  | 109 => ⟨S2x32x32x64x64, .i1⟩
  | 110 => ⟨S2x32x32x64x64, .i1⟩
  | 111 => ⟨S_, .f32⟩
  | 112 => ⟨S2x32x32x64x64, .f32⟩
  | 113 => ⟨S2x32x32x64x64, .i1⟩
  | 114 => ⟨S2x32x32x64x64, .i1⟩
  | 115 => ⟨S_, .f32⟩
  | 116 => ⟨S2x32x32x64x64, .f32⟩
  | 117 => ⟨S2x32x32x64x64, .i1⟩
  | 118 => ⟨S2x32x32x64x64, .i1⟩
  | 119 => ⟨S_, .i32⟩
  | 120 => ⟨S_, .i32⟩
  | 121 => ⟨S_, .f32⟩
  | 122 => ⟨S2x32x32x64x64, .f32⟩
  | 123 => ⟨S2x32x32x64x64, .f32⟩
  | 124 => ⟨S_, .f32⟩
  | 125 => ⟨S2x32x32x64x64, .f32⟩
  | 126 => ⟨S2x32x32x64x64, .f32⟩
  | 127 => ⟨S2x32x32x64x64, .i32⟩
  | _ => ⟨S2x32x2x64x64, .f32⟩

abbrev hbmTy0_1 (i : Nat) : BufTy := match i % 128 with
  | 0 => ⟨S_, .i32⟩
  | 1 => ⟨S_, .i32⟩
  | 2 => ⟨S_, .f32⟩
  | 3 => ⟨S2x32x32x64x64, .f32⟩
  | 4 => ⟨S2x32x32x64x64, .f32⟩
  | 5 => ⟨S_, .f32⟩
  | 6 => ⟨S2x32x32x64x64, .f32⟩
  | 7 => ⟨S2x32x32x64x64, .f32⟩
  | 8 => ⟨S2x32x32x64x64, .i32⟩
  | 9 => ⟨S2x32x32x64x64, .i32⟩
  | 10 => ⟨S2x32x32x64x64, .i32⟩
  | 11 => ⟨S2x32x32x64x64x1, .i32⟩
  | 12 => ⟨S2x32x32x64x64x1, .i32⟩
  | 13 => ⟨S2x32x32x64x64x1, .i32⟩
  | 14 => ⟨S2x32x32x64x64x1, .i32⟩
  | 15 => ⟨S2x32x32x64x64x4, .i32⟩
  | 16 => ⟨S2x32x32x64x64x8, .f32⟩
  | 17 => ⟨S2x32x32x64x64x1, .i1⟩
  | 18 => ⟨S_, .f32⟩
  | 19 => ⟨S_, .f32⟩
  | 20 => ⟨S2x32x32x64x64x8, .i1⟩
  | 21 => ⟨S2x32x32x64x64x8, .f32⟩
  | 22 => ⟨S2x32x32x64x64x8, .f32⟩
  | 23 => ⟨S2x32x32x64x64, .f32⟩
  | 24 => ⟨S2x32x32x64x64x1, .f32⟩
  | 25 => ⟨S2x32x32x64x64x8, .f32⟩
  | 26 => ⟨S2x32x32x64x64x8, .f32⟩
  | 27 => ⟨S_, .f32⟩
  | 28 => ⟨S2x32x32x64x64, .f32⟩
  | 29 => ⟨S2x32x32x64x64, .f32⟩
  | 30 => ⟨S_, .f32⟩
  | 31 => ⟨S2x32x32x64x64, .f32⟩
  | 32 => ⟨S2x32x32x64x64, .i1⟩
  | 33 => ⟨S_, .f32⟩
  | 34 => ⟨S2x32x32x64x64, .f32⟩
  | 35 => ⟨S2x32x32x64x64, .i1⟩
  | 36 => ⟨S2x32x32x64x64, .i1⟩
  | 37 => ⟨S_, .f32⟩
  | 38 => ⟨S2x32x32x64x64, .f32⟩
  | 39 => ⟨S2x32x32x64x64, .i1⟩
  | 40 => ⟨S2x32x32x64x64, .i1⟩
  | 41 => ⟨S_, .f32⟩
  | 42 => ⟨S2x32x32x64x64, .f32⟩
  | 43 => ⟨S2x32x32x64x64, .i1⟩
  | 44 => ⟨S2x32x32x64x64, .i1⟩
  | 45 => ⟨S_, .i32⟩
  | 46 => ⟨S_, .i32⟩
  | 47 => ⟨S_, .f32⟩
  | 48 => ⟨S2x32x32x64x64, .f32⟩
  | 49 => ⟨S2x32x32x64x64, .f32⟩
  | 50 => ⟨S_, .f32⟩
  | 51 => ⟨S2x32x32x64x64, .f32⟩
  | 52 => ⟨S2x32x32x64x64, .f32⟩
  | 53 => ⟨S2x32x32x64x64, .i32⟩
  | 54 => ⟨S_, .i32⟩
  | 55 => ⟨S_, .i32⟩
  | 56 => ⟨S_, .f32⟩
  | 57 => ⟨S2x32x32x64x64, .f32⟩
  | 58 => ⟨S2x32x32x64x64, .f32⟩
  | 59 => ⟨S_, .f32⟩
  | 60 => ⟨S2x32x32x64x64, .f32⟩
  | 61 => ⟨S2x32x32x64x64, .f32⟩
  | 62 => ⟨S2x32x32x64x64, .i32⟩
  | 63 => ⟨S2x32x32x64x64, .i32⟩
  | 64 => ⟨S2x32x32x64x64, .i32⟩
  | 65 => ⟨S2x32x32x64x64x1, .i32⟩
  | 66 => ⟨S2x32x32x64x64x1, .i32⟩
  | 67 => ⟨S2x32x32x64x64x1, .i32⟩
  | 68 => ⟨S2x32x32x64x64x1, .i32⟩
  | 69 => ⟨S2x32x32x64x64x4, .i32⟩
  | 70 => ⟨S2x32x32x64x64x8, .f32⟩
  | 71 => ⟨S2x32x32x64x64x1, .i1⟩
  | 72 => ⟨S_, .f32⟩
  | 73 => ⟨S_, .f32⟩
  | 74 => ⟨S2x32x32x64x64x8, .i1⟩
  | 75 => ⟨S2x32x32x64x64x8, .f32⟩
  | 76 => ⟨S2x32x32x64x64x8, .f32⟩
  | 77 => ⟨S2x32x32x64x64, .f32⟩
  | 78 => ⟨S2x32x32x64x64x1, .f32⟩
  | 79 => ⟨S2x32x32x64x64x8, .f32⟩
  | 80 => ⟨S2x32x32x64x64x8, .f32⟩
  | 81 => ⟨S2x32x32x64x64x8, .f32⟩
  | 82 => ⟨S_, .f32⟩
  | 83 => ⟨S2x32x32x64x64, .f32⟩
  | 84 => ⟨S2x32x32x64x64, .f32⟩
  | 85 => ⟨S_, .f32⟩
  | 86 => ⟨S2x32x32x64x64, .f32⟩
  | 87 => ⟨S2x32x32x64x64, .i1⟩
  | 88 => ⟨S_, .f32⟩
  | 89 => ⟨S2x32x32x64x64, .f32⟩
  | 90 => ⟨S2x32x32x64x64, .i1⟩
  | 91 => ⟨S2x32x32x64x64, .i1⟩
  | 92 => ⟨S_, .f32⟩
  | 93 => ⟨S2x32x32x64x64, .f32⟩
  | 94 => ⟨S2x32x32x64x64, .i1⟩
  | 95 => ⟨S2x32x32x64x64, .i1⟩
  | 96 => ⟨S_, .f32⟩
  | 97 => ⟨S2x32x32x64x64, .f32⟩
  | 98 => ⟨S2x32x32x64x64, .i1⟩
  | 99 => ⟨S2x32x32x64x64, .i1⟩
  | 100 => ⟨S_, .i32⟩
  | 101 => ⟨S_, .i32⟩
  | 102 => ⟨S_, .f32⟩
  | 103 => ⟨S2x32x32x64x64, .f32⟩
  | 104 => ⟨S2x32x32x64x64, .f32⟩
  | 105 => ⟨S_, .f32⟩
  | 106 => ⟨S2x32x32x64x64, .f32⟩
  | 107 => ⟨S2x32x32x64x64, .f32⟩
  | 108 => ⟨S2x32x32x64x64, .i32⟩
  | 109 => ⟨S_, .i32⟩
  | 110 => ⟨S_, .i32⟩
  | 111 => ⟨S_, .f32⟩
  | 112 => ⟨S2x32x32x64x64, .f32⟩
  | 113 => ⟨S2x32x32x64x64, .f32⟩
  | 114 => ⟨S_, .f32⟩
  | 115 => ⟨S2x32x32x64x64, .f32⟩
  | 116 => ⟨S2x32x32x64x64, .f32⟩
  | 117 => ⟨S2x32x32x64x64, .i32⟩
  | 118 => ⟨S2x32x32x64x64, .i32⟩
  | 119 => ⟨S2x32x32x64x64, .i32⟩
  | 120 => ⟨S2x32x32x64x64x1, .i32⟩
  | 121 => ⟨S2x32x32x64x64x1, .i32⟩
  | 122 => ⟨S2x32x32x64x64x1, .i32⟩
  | 123 => ⟨S2x32x32x64x64x1, .i32⟩
  | 124 => ⟨S2x32x32x64x64x4, .i32⟩
  | 125 => ⟨S2x32x32x64x64x8, .f32⟩
  | 126 => ⟨S2x32x32x64x64x1, .i1⟩
  | 127 => ⟨S_, .f32⟩
  | _ => ⟨S2x32x2x64x64, .f32⟩

abbrev hbmTy0_2 (i : Nat) : BufTy := match i % 128 with
  | 0 => ⟨S_, .f32⟩
  | 1 => ⟨S2x32x32x64x64x8, .i1⟩
  | 2 => ⟨S2x32x32x64x64x8, .f32⟩
  | 3 => ⟨S2x32x32x64x64x8, .f32⟩
  | 4 => ⟨S2x32x32x64x64, .f32⟩
  | 5 => ⟨S2x32x32x64x64x1, .f32⟩
  | 6 => ⟨S2x32x32x64x64x8, .f32⟩
  | 7 => ⟨S2x32x32x64x64x8, .f32⟩
  | 8 => ⟨S2x32x32x64x64x8, .f32⟩
  | 9 => ⟨S_, .f32⟩
  | 10 => ⟨S2x32x32x64x64, .f32⟩
  | 11 => ⟨S2x32x32x64x64, .f32⟩
  | 12 => ⟨S_, .f32⟩
  | 13 => ⟨S2x32x32x64x64, .f32⟩
  | 14 => ⟨S2x32x32x64x64, .f32⟩
  | 15 => ⟨S_, .f32⟩
  | 16 => ⟨S2x32x32x64x64, .f32⟩
  | 17 => ⟨S2x32x32x64x64, .i1⟩
  | 18 => ⟨S_, .f32⟩
  | 19 => ⟨S2x32x32x64x64, .f32⟩
  | 20 => ⟨S2x32x32x64x64, .i1⟩
  | 21 => ⟨S2x32x32x64x64, .i1⟩
  | 22 => ⟨S_, .f32⟩
  | 23 => ⟨S2x32x32x64x64, .f32⟩
  | 24 => ⟨S2x32x32x64x64, .i1⟩
  | 25 => ⟨S2x32x32x64x64, .i1⟩
  | 26 => ⟨S_, .f32⟩
  | 27 => ⟨S2x32x32x64x64, .f32⟩
  | 28 => ⟨S2x32x32x64x64, .i1⟩
  | 29 => ⟨S2x32x32x64x64, .i1⟩
  | 30 => ⟨S_, .i32⟩
  | 31 => ⟨S_, .i32⟩
  | 32 => ⟨S_, .f32⟩
  | 33 => ⟨S2x32x32x64x64, .f32⟩
  | 34 => ⟨S2x32x32x64x64, .f32⟩
  | 35 => ⟨S_, .f32⟩
  | 36 => ⟨S2x32x32x64x64, .f32⟩
  | 37 => ⟨S2x32x32x64x64, .f32⟩
  | 38 => ⟨S2x32x32x64x64, .i32⟩
  | 39 => ⟨S_, .i32⟩
  | 40 => ⟨S_, .i32⟩
  | 41 => ⟨S_, .f32⟩
  | 42 => ⟨S2x32x32x64x64, .f32⟩
  | 43 => ⟨S2x32x32x64x64, .f32⟩
  | 44 => ⟨S_, .f32⟩
  | 45 => ⟨S2x32x32x64x64, .f32⟩
  | 46 => ⟨S2x32x32x64x64, .f32⟩
  | 47 => ⟨S2x32x32x64x64, .i32⟩
  | 48 => ⟨S2x32x32x64x64, .i32⟩
  | 49 => ⟨S2x32x32x64x64, .i32⟩
  | 50 => ⟨S2x32x32x64x64x1, .i32⟩
  | 51 => ⟨S2x32x32x64x64x1, .i32⟩
  | 52 => ⟨S2x32x32x64x64x1, .i32⟩
  | 53 => ⟨S2x32x32x64x64x1, .i32⟩
  | 54 => ⟨S2x32x32x64x64x4, .i32⟩
  | 55 => ⟨S2x32x32x64x64x8, .f32⟩
  | 56 => ⟨S2x32x32x64x64x1, .i1⟩
  | 57 => ⟨S_, .f32⟩
  | 58 => ⟨S_, .f32⟩
  | 59 => ⟨S2x32x32x64x64x8, .i1⟩
  | 60 => ⟨S2x32x32x64x64x8, .f32⟩
  | 61 => ⟨S2x32x32x64x64x8, .f32⟩
  | 62 => ⟨S2x32x32x64x64, .f32⟩
  | 63 => ⟨S2x32x32x64x64x1, .f32⟩
  | 64 => ⟨S2x32x32x64x64x8, .f32⟩
  | 65 => ⟨S2x32x32x64x64x8, .f32⟩
  | 66 => ⟨S2x32x32x64x64x8, .f32⟩
  | 67 => ⟨S32, .i32⟩
  | 68 => ⟨S1x32, .i32⟩
  | 69 => ⟨S32x1, .i32⟩
  | 70 => ⟨S32x32, .i32⟩
  | 71 => ⟨S32x32, .i32⟩
  | 72 => ⟨S32x32, .i1⟩
  | 73 => ⟨S1x32x32x1x1x1, .i1⟩
  | 74 => ⟨S_, .f32⟩
  | 75 => ⟨S_, .f32⟩
  | 76 => ⟨S2x32x32x64x64x8, .i1⟩
  | 77 => ⟨S2x32x32x64x64x8, .f32⟩
  | 78 => ⟨S2x32x32x64x64x8, .f32⟩
  | 79 => ⟨S_, .f32⟩
  | 80 => ⟨S2x32x64x64x8, .f32⟩
  | 81 => ⟨S2x32x8x64x64, .f32⟩
  | 82 => ⟨S2x32x8x4096, .f32⟩
  | _ => ⟨S2x32x2x64x64, .f32⟩

abbrev hbmTy (i : Nat) : BufTy := match i / 128 with
  | 0 => hbmTy0_0 i
  | 1 => hbmTy0_1 i
  | 2 => hbmTy0_2 i
  | _ => ⟨S2x32x2x64x64, .f32⟩

abbrev bufTy : (tb : Table) → Fin (tcTables nBuf tb) → BufTy
  | .hbm, ⟨i, _⟩ => hbmTy i
  | _, _ => ⟨S2x32x2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_cst : Ref sig .tc := ⟨.hbm, 49, rfl⟩
abbrev main_call1_v3 : Ref sig .tc := ⟨.hbm, 50, rfl⟩
abbrev main_call1_v4 : Ref sig .tc := ⟨.hbm, 51, rfl⟩
abbrev main_call1_cst_0 : Ref sig .tc := ⟨.hbm, 52, rfl⟩
abbrev main_call1_v5 : Ref sig .tc := ⟨.hbm, 53, rfl⟩
abbrev main_call1_v6 : Ref sig .tc := ⟨.hbm, 54, rfl⟩
abbrev main_call1_cst_1 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_v41 : Ref sig .tc := ⟨.hbm, 73, rfl⟩
abbrev main_v42 : Ref sig .tc := ⟨.hbm, 74, rfl⟩
abbrev main_cst_11 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_v46 : Ref sig .tc := ⟨.hbm, 80, rfl⟩
abbrev main_cst_13 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_16 : Ref sig .tc := ⟨.hbm, 94, rfl⟩
abbrev main_v57 : Ref sig .tc := ⟨.hbm, 95, rfl⟩
abbrev main_v58 : Ref sig .tc := ⟨.hbm, 96, rfl⟩
abbrev main_cst_17 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_18 : Ref sig .tc := ⟨.hbm, 104, rfl⟩
abbrev main_v65 : Ref sig .tc := ⟨.hbm, 105, rfl⟩
abbrev main_v66 : Ref sig .tc := ⟨.hbm, 106, rfl⟩
abbrev main_cst_19 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_20 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_21 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c : Ref sig .tc := ⟨.hbm, 119, rfl⟩
abbrev main_c_22 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v76 : Ref sig .tc := ⟨.hbm, 126, rfl⟩
abbrev main_v77 : Ref sig .tc := ⟨.hbm, 127, rfl⟩
abbrev main_c_23 : Ref sig .tc := ⟨.hbm, 128, rfl⟩
abbrev main_c_24 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_25 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_26 : Ref sig .tc := ⟨.hbm, 155, rfl⟩
abbrev main_v94 : Ref sig .tc := ⟨.hbm, 156, rfl⟩
abbrev main_v95 : Ref sig .tc := ⟨.hbm, 157, rfl⟩
abbrev main_cst_27 : Ref sig .tc := ⟨.hbm, 158, rfl⟩
abbrev main_v96 : Ref sig .tc := ⟨.hbm, 159, rfl⟩
abbrev main_v97 : Ref sig .tc := ⟨.hbm, 160, rfl⟩
abbrev main_cst_28 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_29 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_30 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_c_31 : Ref sig .tc := ⟨.hbm, 173, rfl⟩
abbrev main_c_32 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_v107 : Ref sig .tc := ⟨.hbm, 180, rfl⟩
abbrev main_v108 : Ref sig .tc := ⟨.hbm, 181, rfl⟩
abbrev main_c_33 : Ref sig .tc := ⟨.hbm, 182, rfl⟩
abbrev main_c_34 : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_cst_35 : Ref sig .tc := ⟨.hbm, 200, rfl⟩
abbrev main_call7_v0 : Ref sig .tc := ⟨.hbm, 201, rfl⟩
abbrev main_call7_v1 : Ref sig .tc := ⟨.hbm, 202, rfl⟩
abbrev main_call7_v2 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_cst_36 : Ref sig .tc := ⟨.hbm, 210, rfl⟩
abbrev main_v126 : Ref sig .tc := ⟨.hbm, 211, rfl⟩
abbrev main_v127 : Ref sig .tc := ⟨.hbm, 212, rfl⟩
abbrev main_cst_37 : Ref sig .tc := ⟨.hbm, 213, rfl⟩
abbrev main_v128 : Ref sig .tc := ⟨.hbm, 214, rfl⟩
abbrev main_v129 : Ref sig .tc := ⟨.hbm, 215, rfl⟩
abbrev main_cst_38 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_39 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_cst_40 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_c_41 : Ref sig .tc := ⟨.hbm, 228, rfl⟩
abbrev main_c_42 : Ref sig .tc := ⟨.hbm, 229, rfl⟩
abbrev main_call8_v0 : Ref sig .tc := ⟨.hbm, 230, rfl⟩
abbrev main_call8_v1 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_v139 : Ref sig .tc := ⟨.hbm, 235, rfl⟩
abbrev main_v140 : Ref sig .tc := ⟨.hbm, 236, rfl⟩
abbrev main_c_43 : Ref sig .tc := ⟨.hbm, 237, rfl⟩
abbrev main_c_44 : Ref sig .tc := ⟨.hbm, 238, rfl⟩
abbrev main_call9_v0 : Ref sig .tc := ⟨.hbm, 239, rfl⟩
abbrev main_call9_v1 : Ref sig .tc := ⟨.hbm, 240, rfl⟩
abbrev main_call9_v2 : Ref sig .tc := ⟨.hbm, 241, rfl⟩
abbrev main_call9_v3 : Ref sig .tc := ⟨.hbm, 242, rfl⟩
abbrev main_call9_v4 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_cst_45 : Ref sig .tc := ⟨.hbm, 255, rfl⟩
abbrev main_call10_v0 : Ref sig .tc := ⟨.hbm, 256, rfl⟩
abbrev main_call10_v1 : Ref sig .tc := ⟨.hbm, 257, rfl⟩
abbrev main_call10_v2 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_cst_46 : Ref sig .tc := ⟨.hbm, 265, rfl⟩
abbrev main_v158 : Ref sig .tc := ⟨.hbm, 266, rfl⟩
abbrev main_v159 : Ref sig .tc := ⟨.hbm, 267, rfl⟩
abbrev main_cst_47 : Ref sig .tc := ⟨.hbm, 268, rfl⟩
abbrev main_v160 : Ref sig .tc := ⟨.hbm, 269, rfl⟩
abbrev main_v161 : Ref sig .tc := ⟨.hbm, 270, rfl⟩
abbrev main_cst_48 : Ref sig .tc := ⟨.hbm, 271, rfl⟩
abbrev main_v162 : Ref sig .tc := ⟨.hbm, 272, rfl⟩
abbrev main_v163 : Ref sig .tc := ⟨.hbm, 273, rfl⟩
abbrev main_cst_49 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_50 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_cst_51 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_c_52 : Ref sig .tc := ⟨.hbm, 286, rfl⟩
abbrev main_c_53 : Ref sig .tc := ⟨.hbm, 287, rfl⟩
abbrev main_call11_v0 : Ref sig .tc := ⟨.hbm, 288, rfl⟩
abbrev main_call11_v1 : Ref sig .tc := ⟨.hbm, 289, rfl⟩
abbrev main_call11_v2 : Ref sig .tc := ⟨.hbm, 290, rfl⟩
abbrev main_call11_v3 : Ref sig .tc := ⟨.hbm, 291, rfl⟩
abbrev main_call11_v4 : Ref sig .tc := ⟨.hbm, 292, rfl⟩
abbrev main_v173 : Ref sig .tc := ⟨.hbm, 293, rfl⟩
abbrev main_v174 : Ref sig .tc := ⟨.hbm, 294, rfl⟩
abbrev main_c_54 : Ref sig .tc := ⟨.hbm, 295, rfl⟩
abbrev main_c_55 : Ref sig .tc := ⟨.hbm, 296, rfl⟩
abbrev main_call12_v0 : Ref sig .tc := ⟨.hbm, 297, rfl⟩
abbrev main_call12_v1 : Ref sig .tc := ⟨.hbm, 298, rfl⟩
abbrev main_call12_v2 : Ref sig .tc := ⟨.hbm, 299, rfl⟩
abbrev main_call12_v3 : Ref sig .tc := ⟨.hbm, 300, rfl⟩
abbrev main_call12_v4 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_cst_56 : Ref sig .tc := ⟨.hbm, 313, rfl⟩
abbrev main_call13_v0 : Ref sig .tc := ⟨.hbm, 314, rfl⟩
abbrev main_call13_v1 : Ref sig .tc := ⟨.hbm, 315, rfl⟩
abbrev main_call13_v2 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_cst_57 : Ref sig .tc := ⟨.hbm, 330, rfl⟩
abbrev main_call14_v0 : Ref sig .tc := ⟨.hbm, 331, rfl⟩
abbrev main_call14_v1 : Ref sig .tc := ⟨.hbm, 332, rfl⟩
abbrev main_call14_v2 : Ref sig .tc := ⟨.hbm, 333, rfl⟩
abbrev main_v199 : Ref sig .tc := ⟨.hbm, 334, rfl⟩
abbrev main_cst_58 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩

abbrev nD : Nat := 1
abbrev τ : Topo := Topo.v7x

variable {F : FTy → Type} [FloatOps F]
-- ==== Proof.Hat.lean ====
/-
  Interpolation weights over the extended reals: the hat function `max 0 (1 - |z|)` samples an array of 64 entries at a
  real position `u`. The sum of all 64 entries, each times the hat of its distance to `u`, is the sum of the two entries
  next to `u`, each with its linear weight, where a neighbour outside the array counts as zero. In two axes the same
  gives the four corners of bilinear interpolation. The entries are extended reals (any of them may be infinite), the
  weights are nonnegative reals.
-/
module

public import Idealize.ShloMosaic.PureOps.Ideal

@[expose] public section

noncomputable section

namespace Cert.Warp

/-- The hat function: `1 - |z|` where that is positive, else zero. -/
def hat (z : ℝ) : ℝ := max 0 (1 - |z|)

/-- The hat is nonnegative. -/
theorem hat_nonneg (z : ℝ) : 0 ≤ hat z := le_max_left _ _

/-- The hat of the distance from a whole number `n` to `u`: at the whole number below `u` it is one minus the fractional
    part of `u`, at the next one it is the fractional part, elsewhere it is zero. -/
theorem hat_split (n : ℤ) (u : ℝ) :
    hat ((n : ℝ) - u) = if n = ⌊u⌋ then 1 - (u - ⌊u⌋) else if n = ⌊u⌋ + 1 then u - ⌊u⌋ else 0 := by
  have h1 := Int.floor_le u
  have h2 := Int.lt_floor_add_one u
  unfold hat
  split_ifs with ha hb
  · subst ha
    rw [abs_of_nonpos (by linarith), max_eq_right (by linarith)]; ring
  · subst hb
    push_cast
    rw [abs_of_nonneg (by linarith), max_eq_right (by linarith)]; ring
  · apply max_eq_left
    rcases lt_or_ge n ⌊u⌋ with h | h
    · have : (n : ℝ) + 1 ≤ ⌊u⌋ := by exact_mod_cast h
      rw [abs_of_nonpos (by linarith)]; linarith
    · have : (⌊u⌋ : ℝ) + 2 ≤ n := by
        have : ⌊u⌋ + 2 ≤ n := by omega
        exact_mod_cast this
      rw [abs_of_nonneg (by linarith)]; linarith

/-- Entry `n` of an array of 64 extended reals, zero outside the array. -/
def entry (g : Fin 64 → EReal) (n : ℤ) : EReal := if h : 0 ≤ n ∧ n < 64 then g ⟨n.toNat, by omega⟩ else 0

/-- Summing the entries that stand at one given whole position gives that entry. -/
theorem sum_at (g : Fin 64 → EReal) (n : ℤ) (r : EReal) :
    ∑ x : Fin 64, (if (x.val : ℤ) = n then g x * r else 0) = entry g n * r := by
  unfold entry
  split_ifs with h
  · rw [Finset.sum_eq_single (⟨n.toNat, by omega⟩ : Fin 64)]
    · rw [if_pos (by show ((n.toNat : ℕ) : ℤ) = n; omega)]
    · intro x _ hx
      rw [if_neg]
      intro hn; apply hx; apply Fin.ext; show x.val = n.toNat; omega
    · intro hx; exact absurd (Finset.mem_univ _) hx
  · rw [zero_mul]
    apply Finset.sum_eq_zero
    intro x _
    rw [if_neg]; have := x.isLt; omega

/-- The hat-weighted sum of an array at `u` is its linear interpolation there. -/
theorem sum_hat (g : Fin 64 → EReal) (u : ℝ) :
    ∑ x : Fin 64, g x * ((hat ((x.val : ℝ) - u) : ℝ) : EReal)
      = entry g ⌊u⌋ * ((1 - (u - ⌊u⌋) : ℝ) : EReal) + entry g (⌊u⌋ + 1) * ((u - ⌊u⌋ : ℝ) : EReal) := by
  rw [← sum_at, ← sum_at, ← Finset.sum_add_distrib]
  refine Finset.sum_congr rfl fun x _ => ?_
  have := hat_split (x.val : ℤ) u
  rw [Int.cast_natCast] at this
  rw [this]
  by_cases ha : (x.val : ℤ) = ⌊u⌋
  · rw [if_pos ha, if_pos ha, if_neg (by omega), add_zero]
  · rw [if_neg ha, if_neg ha, zero_add]
    split_ifs <;> simp

/-- Entry `(row m, column n)` of a 64 by 64 array, zero outside it. -/
def corner (g : Fin 64 → Fin 64 → EReal) (n m : ℤ) : EReal := entry (fun x => entry (fun y => g y x) m) n

/-- One sample by hat weights: over the columns, the sum over the rows weighted by the rows' hat, weighted by the column's. -/
def tap (g : Fin 64 → Fin 64 → EReal) (u v : ℝ) : EReal :=
  ∑ x : Fin 64, (∑ y : Fin 64, g y x * ((hat ((y.val : ℝ) - v) : ℝ) : EReal)) * ((hat ((x.val : ℝ) - u) : ℝ) : EReal)

/-- An entry of an array of sums is the sum of the entries, the weights kept. -/
theorem entry_mix (a b : Fin 64 → EReal) (r s : EReal) (n : ℤ) :
    entry (fun x => a x * r + b x * s) n = entry a n * r + entry b n * s := by
  unfold entry
  split_ifs <;> simp

/-- One sample by hat weights is the bilinear interpolation of the four corners around the position. -/
theorem tap_corners (g : Fin 64 → Fin 64 → EReal) (u v : ℝ) :
    tap g u v
      = corner g ⌊u⌋ ⌊v⌋ * (((1 - (u - ⌊u⌋)) * (1 - (v - ⌊v⌋)) : ℝ) : EReal)
        + corner g (⌊u⌋ + 1) ⌊v⌋ * (((u - ⌊u⌋) * (1 - (v - ⌊v⌋)) : ℝ) : EReal)
        + corner g ⌊u⌋ (⌊v⌋ + 1) * (((1 - (u - ⌊u⌋)) * (v - ⌊v⌋) : ℝ) : EReal)
        + corner g (⌊u⌋ + 1) (⌊v⌋ + 1) * (((u - ⌊u⌋) * (v - ⌊v⌋) : ℝ) : EReal) := by
  have hu0 : (0 : ℝ) ≤ 1 - (u - ⌊u⌋) := by have := Int.lt_floor_add_one u; linarith
  have hu1 : (0 : ℝ) ≤ u - ⌊u⌋ := by have := Int.floor_le u; linarith
  have key (a b p q r : EReal) (hr : 0 ≤ r) (hr' : r ≠ ⊤) : (a * p + b * q) * r = a * (r * p) + b * (r * q) := by
    rw [EReal.right_distrib_of_nonneg_of_ne_top hr hr', mul_assoc, mul_assoc, mul_comm p, mul_comm q]
  unfold tap
  rw [sum_hat]
  simp only [sum_hat, entry_mix]
  rw [key _ _ _ _ _ (EReal.coe_nonneg.2 hu0) (EReal.coe_ne_top _), key _ _ _ _ _ (EReal.coe_nonneg.2 hu1) (EReal.coe_ne_top _)]
  simp only [← EReal.coe_mul]
  unfold corner
  ac_rfl

/-- An entry at a position of the array. -/
theorem entry_of_lt (g : Fin 64 → EReal) (n : Fin 64) : entry g (n.val : ℤ) = g n := by
  unfold entry
  rw [dif_pos ⟨by omega, by have := n.isLt; omega⟩]
  rfl

/-- A sample at a whole position of the array is the entry there. -/
theorem tap_at (g : Fin 64 → Fin 64 → EReal) (y x : Fin 64) : tap g (x.val : ℝ) (y.val : ℝ) = g y x := by
  rw [tap_corners]
  have hx : ⌊(x.val : ℝ)⌋ = (x.val : ℤ) := Int.floor_natCast _
  have hy : ⌊(y.val : ℝ)⌋ = (y.val : ℤ) := Int.floor_natCast _
  rw [hx, hy]
  simp only [Int.cast_natCast, sub_self, sub_zero, mul_one, mul_zero, zero_mul, EReal.coe_zero, EReal.coe_one, add_zero]
  unfold corner
  rw [entry_of_lt, entry_of_lt]

/-- A corner is the entry where both positions lie in the array, else zero. -/
theorem corner_eq (g : Fin 64 → Fin 64 → EReal) (n m : ℤ) (y x : Fin 64)
    (hy : 0 ≤ m ∧ m < 64 → (y.val : ℤ) = m) (hx : 0 ≤ n ∧ n < 64 → (x.val : ℤ) = n) :
    corner g n m = if (0 ≤ n ∧ n < 64) ∧ (0 ≤ m ∧ m < 64) then g y x else 0 := by
  by_cases hn : 0 ≤ n ∧ n < 64
  · by_cases hm : 0 ≤ m ∧ m < 64
    · rw [if_pos ⟨hn, hm⟩, ← hx hn, ← hy hm]
      unfold corner
      rw [entry_of_lt, entry_of_lt]
    · rw [if_neg (fun h => hm h.2)]
      unfold corner entry
      rw [dif_pos hn]
      exact dif_neg hm
  · rw [if_neg (fun h => hn h.1)]
    unfold corner entry
    rw [dif_neg hn]

end Cert.Warp

end
-- ==== Proof.Coord.lean ====
module

public import Idealize.ShloMosaic.PureOps.Ideal
public import proofs.«01_k».proof.Proof.Hat

/-!
Where a pixel samples, over the reals, and what one result entry holds.

A pixel in column `j` stands at `(2 j + 1) / 64 - 1` on the axis from -1 to 1. Drifted by `D` its column position wraps around
with period 2, its row position doesn't. In pixel units these are `colOf` and `rowOf`.
-/

@[expose] public section

noncomputable section

open Idealize.ShloMosaic

namespace Cert.Warp

/-- The centre of pixel `j` of 64, on the axis from -1 to 1. -/
def pix0 (j : ℕ) : ℝ := (2 * (j : ℝ) + 1) * (1 / 64) - 1

/-- The column, in pixel units, of column `j` drifted by `D`; it wraps around. -/
def colOf (j : ℕ) (D : ℝ) : ℝ :=
  (pix0 j + D + 1 - 2 * (⌊(pix0 j + D + 1) * (1 / 2)⌋ : ℝ)) * 32 - 1 / 2

/-- The row, in pixel units, of row `j` drifted by `D`; it doesn't wrap. -/
def rowOf (j : ℕ) (D : ℝ) : ℝ := (pix0 j + D + 1) * 32 - 1 / 2

/-- Without drift a column is itself. -/
theorem colOf_zero (j : Fin 64) : colOf j.val 0 = (j.val : ℝ) := by
  have hj : ((j.val : ℕ) : ℝ) ≤ 63 := by exact_mod_cast Nat.le_of_lt_succ j.isLt
  have h0 : (0 : ℝ) ≤ (j.val : ℝ) := Nat.cast_nonneg _
  have hf : ⌊(pix0 j.val + 0 + 1) * (1 / 2)⌋ = 0 := by
    rw [Int.floor_eq_zero_iff]
    unfold pix0
    constructor <;> linarith
  unfold colOf
  rw [hf]
  unfold pix0
  push_cast
  ring

/-- Without drift a row is itself. -/
theorem rowOf_zero (j : Fin 64) : rowOf j.val 0 = (j.val : ℝ) := by
  unfold rowOf pix0
  ring

/-- The drift from time `k` to time `t`: the flows of the times `k + 1`, …, `t` added up. -/
def drift (f : ℕ → ℝ) (k t : ℕ) : ℝ := ∑ j ∈ Finset.Ico (k + 1) (t + 1), f j

/-- No time, no drift. -/
theorem drift_self (f : ℕ → ℝ) (t : ℕ) : drift f t t = 0 := by
  unfold drift
  rw [Finset.Ico_self, Finset.sum_empty]

/-- The drift is a difference of the running sums of the flows. -/
theorem drift_eq_sub (f : ℕ → ℝ) {k t : ℕ} (h : k ≤ t) :
    drift f k t = (∑ j ∈ Finset.range (t + 1), f j) - ∑ j ∈ Finset.range (k + 1), f j :=
  Finset.sum_Ico_eq_sub _ (by omega)

/-- The entry at time `t`, row `h`, column `w`: the image of time `t` there, plus the image of every earlier time sampled
    where the pixel stood by then. -/
def warped (I : ℕ → Fin 64 → Fin 64 → EReal) (fx fy : ℕ → ℝ) (t h w : ℕ) (here : EReal) : EReal :=
  here + ∑ k ∈ Finset.range t, tap (I k) (colOf w (drift fx k t)) (rowOf h (drift fy k t))

/-- Among reals, the larger one. -/
theorem coe_max (a b : ℝ) : max (a : EReal) (b : EReal) = ((max a b : ℝ) : EReal) :=
  (EReal.coe_strictMono.monotone.map_max).symm

/-- The hat as computed on extended reals. -/
theorem hat_coe (z : ℝ) : max ((0 : ℝ) : EReal) (((1 : ℝ) : EReal) - max (z : EReal) (-(z : EReal))) = ((hat z : ℝ) : EReal) := by
  rw [← EReal.coe_neg, coe_max, ← EReal.coe_sub, coe_max]
  rfl

end Cert.Warp

end
-- ==== Proof.Target.lean ====
module

public import Idealize.ShloMosaic.Lib.ValueIdx
public import proofs.«01_k».proof.Proof.Coord

/-!
The result as one function of the flows and the images: what both programs are shown to compute.
-/

@[expose] public section

noncomputable section

open Idealize.ShloMosaic Idealize.ShloMosaic.ValueIdx

namespace Cert.Warp

/-- The row of pixel number `p` of 4096. -/
def rowP (p : Fin 4096) : Fin 64 := ⟨p.val / 64, by have := p.isLt; omega⟩

/-- The column of pixel number `p` of 4096. -/
def colP (p : Fin 4096) : Fin 64 := ⟨p.val % 64, Nat.mod_lt _ (by norm_num)⟩

/-- A number below 32 as a time. -/
def time (s : ℕ) : Fin 32 := Fin.ofNat 32 s

/-- A time is the time of its number. -/
theorem time_val (s : Fin 32) : time s.val = s := Fin.ext (Nat.mod_eq_of_lt s.isLt)

/-- The flow component `a` of a pixel as a function of time. -/
def flowAt (a0 : Vec Ideal ⟨5, ![2, 32, 2, 64, 64]⟩ .f32) (b : Fin 2) (a : Fin 2) (y x : Fin 64) (s : ℕ) : ℝ :=
  (a0 (ix5 b (time s) a y x)).toReal

/-- One channel's image as a function of time. -/
def imageAt (a1 : Vec Ideal ⟨5, ![2, 32, 8, 64, 64]⟩ .f32) (b : Fin 2) (ch : Fin 8) (s : ℕ) (y x : Fin 64) : EReal :=
  a1 (ix5 b (time s) ch y x)

/-- Every flow is a real number. -/
def Finite (a0 : Vec Ideal ⟨5, ![2, 32, 2, 64, 64]⟩ .f32) : Prop :=
  ∀ b s a y x, a0 (ix5 b s a y x) = (((a0 (ix5 b s a y x)).toReal : ℝ) : EReal)

/-- The result at batch `b`, time `t`, channel `ch`, row `y` and column `x`. -/
def target (a0 : Vec Ideal ⟨5, ![2, 32, 2, 64, 64]⟩ .f32) (a1 : Vec Ideal ⟨5, ![2, 32, 8, 64, 64]⟩ .f32)
    (b : Fin 2) (t : Fin 32) (ch : Fin 8) (y x : Fin 64) : EReal :=
  warped (imageAt a1 b ch) (flowAt a0 b 0 y x) (flowAt a0 b 1 y x) t.val y.val x.val (a1 (ix5 b t ch y x))

end Cert.Warp

end
-- ==== Proof.Condition.lean ====
module

public import proofs.«01_k».proof.Pre_finite_flows
public import proofs.«01_k».proof.Proof.Target
public import Idealize.ShloMosaic.PureOps.Ideal.Laws

/-!
The precondition: where it says yes everywhere, every flow is a real number.
-/

@[expose] public section

noncomputable section

open Idealize.ShloMosaic Idealize.ShloMosaic.ValueIdx

namespace Cert.Warp

/-- The shape relation the precondition states. -/
theorem condition_facts : Cert.Pre_finite_flows.Facts := ⟨by decide⟩

/-- The pattern of infinity. -/
theorem bits_inf : Ideal.ofBits .f32 0x7F800000#32 = ⊤ := by
  simp [Ideal.ofBits, Ideal.ieee]

/-- A number whose size is below infinity is real. -/
theorem real_of_below (z : EReal) (h : Ideal.cmp .olt (max z (-z)) ⊤ = 1#1) : z = ((z.toReal : ℝ) : EReal) := by
  refine (EReal.coe_toReal ?_ ?_).symm
  · rintro rfl
    revert h
    simp [Ideal.cmp]
  · rintro rfl
    revert h
    simp [Ideal.cmp]

/-- Under the precondition every flow is a real number. -/
theorem finite_of_condition [Cert.Pre_finite_flows.Facts] (a0 : Vec Ideal ⟨5, ![2, 32, 2, 64, 64]⟩ .f32)
    (a1 : Vec Ideal ⟨5, ![2, 32, 8, 64, 64]⟩ .f32) (h : Cert.Pre_finite_flows.fn (F := Ideal) a0 a1 = fun _ => 1#1) : Finite a0 := by
  intro b s a y x
  have h1 : Cert.Pre_finite_flows.fn (F := Ideal) a0 a1 (ix5 b s a y x)
      = Ideal.cmp .olt (max (a0 (ix5 b s a y x)) (-(a0 (ix5 b s a y x)))) (Ideal.ofBits .f32 0x7F800000#32) := rfl
  have h2 := h1.symm.trans (congrFun h (ix5 b s a y x))
  rw [bits_inf] at h2
  exact real_of_below _ h2

end Cert.Warp

end
-- ==== Proof.Consts.lean ====
module

public import Idealize.ShloMosaic.PureOps.Ideal

/-!
The real numbers that the constants of the two programs stand for.
-/

@[expose] public section

noncomputable section

open Idealize.ShloMosaic

namespace Cert.Warp

/-- The pattern of zero. -/
theorem bits_zero : Ideal.ofBits .f32 0x00000000#32 = ((0 : ℝ) : EReal) := by
  simp [Ideal.ofBits, Ideal.ieee, -EReal.coe_mul]
/-- The pattern of one. -/
theorem bits_one : Ideal.ofBits .f32 0x3F800000#32 = ((1 : ℝ) : EReal) := by
  simp [Ideal.ofBits, Ideal.ieee, -EReal.coe_mul]; norm_num
/-- The pattern of two. -/
theorem bits_two : Ideal.ofBits .f32 0x40000000#32 = ((2 : ℝ) : EReal) := by
  simp [Ideal.ofBits, Ideal.ieee, -EReal.coe_mul]; norm_num
/-- The pattern of one half. -/
theorem bits_half : Ideal.ofBits .f32 0x3F000000#32 = ((1 / 2 : ℝ) : EReal) := by
  simp [Ideal.ofBits, Ideal.ieee, -EReal.coe_mul]; norm_num
/-- The pattern of 32. -/
theorem bits_32 : Ideal.ofBits .f32 0x42000000#32 = ((32 : ℝ) : EReal) := by
  simp [Ideal.ofBits, Ideal.ieee, -EReal.coe_mul]; norm_num
/-- The pattern of 1/64. -/
theorem bits_inv64 : Ideal.ofBits .f32 0x3C800000#32 = ((1 / 64 : ℝ) : EReal) := by
  simp [Ideal.ofBits, Ideal.ieee, -EReal.coe_mul]; norm_num

end Cert.Warp

end
-- ==== Proof.Kernel.Lanes.lean ====
module

public import proofs.«01_k».proof.Proof.Gen.KernelIdeal.Skeleton
public import Idealize.ShloMosaic.Lib.Pipeline.Value
public import Idealize.ShloMosaic.Lib.ValueIdx
public import proofs.«01_k».proof.Proof.Coord
public import proofs.«01_k».proof.Proof.Consts

/-!
What the kernel's position vectors hold at one index: the lanes' positions, the line numbers, the channel mask.

Lane `p` of 4096 is the pixel in row `p / 64` and column `p % 64`; line `c * 64 + x` of 512 is channel `c`, column `x`.
-/

@[expose] public section

noncomputable section

open Idealize.ShloMosaic Idealize.ShloMosaic.ValueIdx

namespace Cert.KernelIdeal.Gen

open Cert.Warp

/-- Line `c * 64 + x` of the 512 lines. -/
def line (c : Fin 8) (x : Fin 64) : Fin 512 := ⟨c.val * 64 + x.val, by have := c.isLt; have := x.isLt; omega⟩

/-- The lane's column position. -/
def laneX : FVec Ideal S1x4096 .f32 := k0_pay53 k0_pay50 k0_pay52
/-- The lane's row position. -/
def laneY : FVec Ideal S1x4096 .f32 := k0_pay54 k0_pay51
/-- Row number `y` in line `y`. -/
def lines : FVec Ideal S64x4096 .f32 := k0_pay55
/-- The channel of a line, one where it matches. -/
def pick : FVec Ideal S8x512 .bf16 := k0_pay57 k0_pay56 (FloatOps.ofBits .f32 0x3F800000#32) (FloatOps.ofBits .f32 0x00000000#32)

/-- Lane `p`'s number modulo 64. -/
theorem lane_mod (p : Fin 4096) : (k0_pay50 (F := Ideal)) (ix2 0 p) = (((p.val % 64 : ℕ) : ℝ) : EReal) := by
  have key : ∃ W : IVec S1x4096 32, k0_pay50 (F := Ideal) = sitofp .f32 W
      ∧ ∀ p : Fin 4096, (W (ix2 0 p)).toInt = ((p.val % 64 : ℕ) : ℤ) := ⟨_, rfl, by decide +kernel⟩
  obtain ⟨W, hW, hp⟩ := key
  rw [hW]
  show (((W (ix2 0 p)).toInt : ℝ) : EReal) = _
  rw [hp, Int.cast_natCast]

/-- Lane `p`'s number divided by 64. -/
theorem lane_div (p : Fin 4096) : (k0_pay51 (F := Ideal)) (ix2 0 p) = (((p.val / 64 : ℕ) : ℝ) : EReal) := by
  have key : ∃ W : IVec S1x4096 32, k0_pay51 (F := Ideal) = sitofp .f32 W
      ∧ ∀ p : Fin 4096, (W (ix2 0 p)).toInt = ((p.val / 64 : ℕ) : ℤ) := ⟨_, rfl, by decide +kernel⟩
  obtain ⟨W, hW, hp⟩ := key
  rw [hW]
  show (((W (ix2 0 p)).toInt : ℝ) : EReal) = _
  rw [hp, Int.cast_natCast]

/-- Lane `p`'s column position is that of column `p % 64`. -/
theorem laneX_apply (p : Fin 4096) : laneX (ix2 0 p) = ((pix0 (p.val % 64) : ℝ) : EReal) := by
  unfold laneX k0_pay53 k0_pay52
  dsimp only [Scalar.ofBits]
  simp only [subf_apply, mulf_apply, addf_apply, broadcast_apply, lane_mod, Ideal.ofBits_def, bits_one, bits_two, bits_inv64]
  simp only [← EReal.coe_mul, ← EReal.coe_add, ← EReal.coe_sub]
  rfl

/-- Lane `p`'s row position is that of row `p / 64`. -/
theorem laneY_apply (p : Fin 4096) : laneY (ix2 0 p) = ((pix0 (p.val / 64) : ℝ) : EReal) := by
  unfold laneY k0_pay54
  dsimp only [Scalar.ofBits]
  simp only [subf_apply, mulf_apply, addf_apply, broadcast_apply, lane_div, Ideal.ofBits_def, bits_one, bits_two, bits_inv64]
  simp only [← EReal.coe_mul, ← EReal.coe_add, ← EReal.coe_sub]
  rfl

/-- Line `y` holds the number `y`. -/
theorem lines_apply (y : Fin 64) (p : Fin 4096) : lines (ix2 y p) = ((y.val : ℝ) : EReal) := by
  have key : ∀ y : Fin 64, (BitVec.ofNat 32 (0 * 64 + y.val)).toInt = (y.val : ℤ) := by decide +kernel
  show (((BitVec.ofNat 32 (0 * 64 + y.val)).toInt : ℝ) : EReal) = _
  rw [key, Int.cast_natCast]

/-- The channel mask: one where the line is of the channel, else zero. -/
theorem pick_apply (c : Fin 8) (r : Fin 512) : pick (ix2 c r) = if c.val = r.val / 64 then 1 else 0 := by
  have key : ∀ c : Fin 8, ∀ r : Fin 512, k0_pay56 (ix2 c r) = if c.val = r.val / 64 then 1#1 else 0#1 := by decide +kernel
  show Scalar.select (k0_pay56 (ix2 c r)) (Ideal.ofBits .f32 0x3F800000#32) (Ideal.ofBits .f32 0x00000000#32) = _
  rw [key, bits_one, bits_zero]
  split_ifs <;> rfl

/-- The lines as channel and column. -/
def lineEquiv : Fin 8 × Fin 64 ≃ Fin 512 where
  toFun q := line q.1 q.2
  invFun r := (⟨r.val / 64, by have := r.isLt; omega⟩, ⟨r.val % 64, by omega⟩)
  left_inv q := by
    have := q.2.isLt
    refine Prod.ext (Fin.ext ?_) (Fin.ext ?_)
    · show (q.1.val * 64 + q.2.val) / 64 = q.1.val; omega
    · show (q.1.val * 64 + q.2.val) % 64 = q.2.val; omega
  right_inv r := Fin.ext (by show r.val / 64 * 64 + r.val % 64 = r.val; omega)

end Cert.KernelIdeal.Gen

end
-- ==== Proof.Kernel.Sample.lean ====
module

public import proofs.«01_k».proof.Proof.Kernel.Lanes
public import Idealize.ShloMosaic.Lib.Pipeline.Value
public import Idealize.ShloMosaic.Lib.MatmulPlain
public import Idealize.ShloMosaic.Lib.ValueIdx

/-!
What the kernel's vector operations hold at one index: the hat weights of the rows and of the columns,
one weighted image, and the sum of it over the columns.
-/

@[expose] public section

noncomputable section

open Idealize.ShloMosaic Idealize.ShloMosaic.ValueIdx

namespace Cert.KernelIdeal.Gen

open Cert.Warp

/-- The magnitude at an index. -/
theorem absf_apply {s : Shape} {φ : FTy} (a : FVec Ideal s φ) (i : s.Idx) : absf a i = max (a i) (-(a i)) := rfl

/-- The whole part at an index. -/
theorem floor_apply {s : Shape} {φ : FTy} (a : FVec Ideal s φ) (i : s.Idx) : floor a i = Ideal.liftRound Int.floor (a i) := rfl

/-- A row of lanes broadcast to 64 lines. -/
theorem bcast_apply (v : FVec Ideal S1x4096 .f32) (y : Fin 64) (p : Fin 4096) :
    broadcastTo S64x4096 v broadcasts_S1x4096_S64x4096 (ix2 y p) = v (ix2 0 p) :=
  broadcastTo_apply v _ _ _ (fun a => by fin_cases a <;> rfl)

/-- The rows' weights for a drift known to be the real `D`. -/
theorem rowWeight_apply (dy : FVec Ideal S1x4096 .f32) (y : Fin 64) (p : Fin 4096) (D : ℝ) (hD : dy (ix2 0 p) = (D : EReal)) :
    k0_pay12 laneY lines dy (ix2 y p) = ((hat ((y.val : ℝ) - rowOf (p.val / 64) D) : ℝ) : EReal) := by
  unfold k0_pay12
  dsimp only [Scalar.ofBits]
  simp only [truncf_apply, maximumf_apply, subf_apply, bcast_apply, absf_apply, mulf_apply, addf_apply, broadcast_apply, lines_apply, laneY_apply, hD,
    Ideal.ofBits_def, bits_one, bits_32, bits_half, bits_zero]
  simp only [← EReal.coe_mul, ← EReal.coe_add, ← EReal.coe_sub]
  exact hat_coe _

/-- The columns' weights for a drift known to be the real `D`. -/
theorem colWeight_apply (dx : FVec Ideal S1x4096 .f32) (x : Fin 64) (p : Fin 4096) (D : ℝ) (hD : dx (ix2 0 p) = (D : EReal)) :
    k0_pay13 laneX lines dx (ix2 x p) = ((hat ((x.val : ℝ) - colOf (p.val % 64) D) : ℝ) : EReal) := by
  unfold k0_pay13
  dsimp only [Scalar.ofBits]
  simp only [truncf_apply, maximumf_apply, subf_apply, bcast_apply, absf_apply, floor_apply, mulf_apply, addf_apply, broadcast_apply, lines_apply, laneX_apply, hD,
    Ideal.ofBits_def, bits_one, bits_two, bits_32, bits_half, bits_zero]
  simp only [← EReal.coe_mul, ← EReal.coe_add, ← EReal.coe_sub, Ideal.liftRound_coe]
  rw [hat_coe]
  unfold colOf
  congr 3
  ring

/-- One image weighted by rows and columns, at channel `c`, column `x`, lane `p`. -/
theorem weighted_apply (wy wx : FVec Ideal S64x4096 .bf16) (img : Vec Ideal S1x1x512x64 .bf16) (c : Fin 8) (x : Fin 64) (p : Fin 4096) :
    k0_pay14 wy wx img (ix2 (line c x) p)
      = (∑ y : Fin 64, img (ix4 0 0 (line c x) y) * wy (ix2 y p)) * wx (ix2 x p) := by
  unfold k0_pay14
  rw [shapeCast_apply _ _ _ (ix3 c x p) (by
    rw [Shape.rowMajor_val_three, Shape.rowMajor_val_two]; show (c.val * 64 + x.val) * 4096 + p.val = (c.val * 64 + x.val) * 4096 + p.val; rfl)]
  rw [mulf_apply]
  congr 1
  · rw [shapeCast_apply _ _ _ (ix2 (line c x) p) (by
      rw [Shape.rowMajor_val_three, Shape.rowMajor_val_two]; rfl), truncf_apply]
    refine (Ideal.matmul_plain_apply (M := 512) (K := 64) (N := 4096) none _ _ _ (line c x) p).trans ?_
    rw [constant_apply, bits_zero, EReal.coe_zero, zero_add]
    refine Finset.sum_congr rfl fun y _ => ?_
    rw [shapeCast_apply _ _ _ (ix4 0 0 (line c x) y) (by
      rw [Shape.rowMajor_val_four, Shape.rowMajor_val_two]; show ((0 * 1 + 0) * 512 + (line c x).val) * 64 + y.val = (line c x).val * 64 + y.val; omega)]
  · rw [broadcastTo_apply _ _ _ (ix3 0 x p) (fun a => by fin_cases a <;> rfl)]
    rw [shapeCast_apply _ _ _ (ix2 x p) (by
      rw [Shape.rowMajor_val_three, Shape.rowMajor_val_two]; show x.val * 4096 + p.val = (0 * 64 + x.val) * 4096 + p.val; omega)]

/-- The sum over the columns, added to what was there. -/
theorem gathered_apply (acc : FVec Ideal S8x4096 .f32) (v : FVec Ideal S512x4096 .bf16) (c : Fin 8) (p : Fin 4096) :
    k0_pay2 pick acc v (ix2 c p) = acc (ix2 c p) + ∑ x : Fin 64, v (ix2 (line c x) p) := by
  unfold k0_pay2
  rw [addf_apply]
  congr 1
  refine (Ideal.matmul_plain_apply (M := 8) (K := 512) (N := 4096) none _ _ _ c p).trans ?_
  rw [constant_apply, bits_zero, EReal.coe_zero, zero_add, ← lineEquiv.sum_comp, Fintype.sum_prod_type, Finset.sum_eq_single c]
  · refine Finset.sum_congr rfl fun x _ => ?_
    have hx := x.isLt
    rw [pick_apply, if_pos (by show c.val = (c.val * 64 + x.val) / 64; omega), one_mul]
    rfl
  · intro d _ hd
    refine Finset.sum_eq_zero fun x _ => ?_
    have hx := x.isLt
    rw [pick_apply, if_neg (by
      intro h; apply hd; apply Fin.ext
      have : c.val = (d.val * 64 + x.val) / 64 := h
      omega), zero_mul]
  · intro h; exact absurd (Finset.mem_univ _) h

end Cert.KernelIdeal.Gen

end
-- ==== Proof.Kernel.Trips.lean ====
module

public import proofs.«01_k».proof.Proof.Gen.KernelIdeal.Frame
public import proofs.«01_k».proof.Proof.Kernel.Sample
public import Idealize.ShloMosaic.Lib.Pipeline.ValueKit.Tiles

/-!
One trip of each of the kernel's two loops over earlier times, in the words of `Sample`: the loop that takes four times a trip,
and the one that takes the rest one at a time. Each loop is followed by a copy of itself for the trips left over; there are none.
-/

@[expose] public section

noncomputable section

open Idealize.ShloMosaic Idealize.ShloMosaic.ValueIdx Idealize.ShloMosaic.TcCoe Idealize.ShloMosaic.Tactic Idealize.SL Idealize.SL.Sem

namespace Cert.KernelIdeal.Gen

/-- What a trip carries: the column drift, the row drift, the sum so far. -/
abbrev Carried : Type := FVec Ideal S1x4096 .f32 × FVec Ideal S1x4096 .f32 × FVec Ideal S8x4096 .f32

/-- A drift with one time's flow added. -/
def plus (d : FVec Ideal S1x4096 .f32) (f : Vec Ideal S1x1x1x1x4096 .f32) : FVec Ideal S1x4096 .f32 := k0_pay15 d f

/-- One time's image weighted for the drifts. -/
def weighted (dx dy : FVec Ideal S1x4096 .f32) (img : Vec Ideal S1x1x512x64 .bf16) : FVec Ideal S512x4096 .bf16 :=
  k0_pay14 (k0_pay12 laneY lines dy) (k0_pay13 laneX lines dx) img

/-- One trip over four times: the four weighted images added up, summed over the columns and added to the sum so far. -/
def four (f : Fin 4 → Vec Ideal S1x1x1x1x4096 .f32) (g : Fin 4 → Vec Ideal S1x1x1x1x4096 .f32)
    (img : Fin 4 → Vec Ideal S1x1x512x64 .bf16) (acc : Carried) : Carried :=
  (plus (plus (plus (plus acc.1 (f 0)) (f 1)) (f 2)) (f 3),
   plus (plus (plus (plus acc.2.1 (g 0)) (g 1)) (g 2)) (g 3),
   k0_pay2 pick acc.2.2 (addf (addf (addf (weighted acc.1 acc.2.1 (img 0))
     (weighted (plus acc.1 (f 0)) (plus acc.2.1 (g 0)) (img 1)))
     (weighted (plus (plus acc.1 (f 0)) (f 1)) (plus (plus acc.2.1 (g 0)) (g 1)) (img 2)))
     (weighted (plus (plus (plus acc.1 (f 0)) (f 1)) (f 2)) (plus (plus (plus acc.2.1 (g 0)) (g 1)) (g 2)) (img 3))))

/-- One trip over one time. -/
def one (f g : Vec Ideal S1x1x1x1x4096 .f32) (img : Vec Ideal S1x1x512x64 .bf16) (acc : Carried) : Carried :=
  (plus acc.1 f, plus acc.2.1 g, k0_pay2 pick acc.2.2 (weighted acc.1 acc.2.1 img))

/-- A trip of the loop over four times is `four` of what it loads. -/
theorem trip1 (𝒱 : Variants) (c : Dev nD) (bd : Option 𝒱.V) (i : grid0.Coords) (arg2 : Memref sig .tc .vmem S1x32x2x1x4096 .f32) (harg2 : arg2.IsWhole) (arg3 : Memref sig .tc .vmem S1x32x512x64 .bf16) (harg3 : arg3.IsWhole) (arg4 : Memref sig .tc .vmem S1x1x8x4096 .f32) (harg4 : arg4.IsWhole) (arg5 : Memref sig .tc .vmem S1x1x8x4096 .f32) (harg5 : arg5.IsWhole) (arg1 c0 c1 : BitVec 32)
    (x0 : Vec Ideal S1x32x2x1x4096 .f32) (x1 : Vec Ideal S1x32x512x64 .bf16) (k : Fin (k0_t1_loop i).trips) (acc : Carried) :
    tripR_k0_t1 (F := Ideal) 𝒱 c bd i arg2 harg2 arg3 harg3 arg4 harg4 arg5 harg5 arg1 laneX laneY lines pick c0 c1 (harg2.unread x0) (harg3.unread x1) k acc
      = four
          (fun r => View.ld x0 (Rect.unit (s := S1x32x2x1x4096) (k0_off4 i k (BitVec.ofNat 32 r.val)) S1x1x1x1x4096.size (k0_off4_inb i k r)))
          (fun r => View.ld x0 (Rect.unit (s := S1x32x2x1x4096) (k0_off5 i k (BitVec.ofNat 32 r.val)) S1x1x1x1x4096.size (k0_off5_inb i k r)))
          (fun r => View.ld x1 (Rect.unit (s := S1x32x512x64) (k0_off3 i k (BitVec.ofNat 32 r.val)) S1x1x512x64.size (k0_off3_inb i k r)))
          acc := by
  unfold tripR_k0_t1 trip_k0_t1
  dsimp only
  sl_unfold_words
  simp only [View.readAt_eq_ld, harg2.read_unread, harg3.read_unread]
  rfl

/-- A trip of the loop over one time is `one` of what it loads. -/
theorem trip3 (𝒱 : Variants) (c : Dev nD) (bd : Option 𝒱.V) (i : grid0.Coords) (arg2 : Memref sig .tc .vmem S1x32x2x1x4096 .f32) (harg2 : arg2.IsWhole) (arg3 : Memref sig .tc .vmem S1x32x512x64 .bf16) (harg3 : arg3.IsWhole) (arg4 : Memref sig .tc .vmem S1x1x8x4096 .f32) (harg4 : arg4.IsWhole) (arg5 : Memref sig .tc .vmem S1x1x8x4096 .f32) (harg5 : arg5.IsWhole) (arg1 : BitVec 32)
    (x0 : Vec Ideal S1x32x2x1x4096 .f32) (x1 : Vec Ideal S1x32x512x64 .bf16) (k : Fin (k0_t3_loop i).trips) (acc : Carried) :
    tripR_k0_t3 (F := Ideal) 𝒱 c bd i arg2 harg2 arg3 harg3 arg4 harg4 arg5 harg5 arg1 laneX laneY lines pick (harg2.unread x0) (harg3.unread x1) k acc
      = one
          (View.ld x0 (Rect.unit (s := S1x32x2x1x4096) (k0_off10 i k) S1x1x1x1x4096.size (k0_off10_inb i k)))
          (View.ld x0 (Rect.unit (s := S1x32x2x1x4096) (k0_off11 i k) S1x1x1x1x4096.size (k0_off11_inb i k)))
          (View.ld x1 (Rect.unit (s := S1x32x512x64) (k0_off9 i k) S1x1x512x64.size (k0_off9_inb i k)))
          acc := by
  unfold tripR_k0_t3 trip_k0_t3
  dsimp only
  sl_unfold_words
  simp only [View.readAt_eq_ld, harg2.read_unread, harg3.read_unread]
  rfl

/-- The loop over four times has a quarter of the earlier times as its trips, the other loop the rest. -/
theorem trips_eq : ∀ i : grid0.Coords, (k0_t1_loop i).trips = (i 1).val / 4 ∧ (k0_t3_loop i).trips = (i 1).val % 4 := by
  decide +kernel

/-- The loop over four times loads, at its trip `k`, the four times before `t - 4 k`. -/
theorem offs1 : ∀ (i : grid0.Coords) (k : Fin (k0_t1_loop i).trips) (r : Fin 4),
    k0_off4 i k (BitVec.ofNat 32 r.val) = ![0, (i 1).val - 1 - (4 * k.val + r.val), 0, 0, 0]
    ∧ k0_off5 i k (BitVec.ofNat 32 r.val) = ![0, (i 1).val - 1 - (4 * k.val + r.val), 1, 0, 0]
    ∧ k0_off3 i k (BitVec.ofNat 32 r.val) = ![0, (i 1).val - 1 - (4 * k.val + r.val), 0, 0] := by
  decide +kernel

/-- The loop over the rest loads, at its trip `k`, the time before `t % 4 - k`. -/
theorem offs3 : ∀ (i : grid0.Coords) (k : Fin (k0_t3_loop i).trips),
    k0_off10 i k = ![0, (i 1).val - 1 - (4 * ((i 1).val / 4) + k.val), 0, 0, 0]
    ∧ k0_off11 i k = ![0, (i 1).val - 1 - (4 * ((i 1).val / 4) + k.val), 1, 0, 0]
    ∧ k0_off9 i k = ![0, (i 1).val - 1 - (4 * ((i 1).val / 4) + k.val), 0, 0] := by
  decide +kernel

/-- The first two loads are the flow of the point's own time. -/
theorem offs0 : ∀ i : grid0.Coords, k0_off1 i = ![0, (i 1).val, 0, 0, 0] ∧ k0_off2 i = ![0, (i 1).val, 1, 0, 0] := by
  decide +kernel

end Cert.KernelIdeal.Gen

end
-- ==== Proof.Kernel.Steps.lean ====
module

public import proofs.«01_k».proof.Proof.Kernel.Trips

/-!
The state of the kernel's loops after `n` of the earlier times: the drifts add up the flows back to time `t - n`, the sum
holds the samples of the `n` latest earlier images.
-/

@[expose] public section

noncomputable section

open Idealize.ShloMosaic Idealize.ShloMosaic.ValueIdx Cert.Warp

namespace Cert.KernelIdeal.Gen

/-- The flows of the times from `t - n` to `t` added up. -/
def back (f : ℕ → ℝ) (t n : ℕ) : ℝ := ∑ j ∈ Finset.Ico (t - n) (t + 1), f j

/-- Going no time back leaves the flow of time `t`. -/
theorem back_zero (f : ℕ → ℝ) (t : ℕ) : back f t 0 = f t := by
  unfold back
  rw [Nat.sub_zero, Nat.Ico_succ_singleton, Finset.sum_singleton]

/-- Going one time further back adds that time's flow. -/
theorem back_succ (f : ℕ → ℝ) {t n : ℕ} (h : n < t) : back f t n + f (t - 1 - n) = back f t (n + 1) := by
  unfold back
  have e1 : t - 1 - n = t - (n + 1) := by omega
  have e2 : t - n = t - (n + 1) + 1 := by omega
  rw [e1, e2, add_comm, ← Finset.sum_eq_sum_Ico_succ_bot (by omega)]

/-- The flows back to time `t - n` are the drift since time `t - 1 - n`. -/
theorem back_eq_drift (f : ℕ → ℝ) {t n : ℕ} (h : n < t) : back f t n = drift f (t - 1 - n) t := by
  unfold back drift
  have e : t - 1 - n + 1 = t - n := by omega
  rw [e]

/-- A drift with a flow added, at a lane. -/
theorem plus_apply (d : FVec Ideal S1x4096 .f32) (f : Vec Ideal S1x1x1x1x4096 .f32) (p : Fin 4096) :
    plus d f (ix2 0 p) = d (ix2 0 p) + f (ix5 0 0 0 0 p) := by
  unfold plus k0_pay15
  rw [addf_apply, shapeCast_apply _ _ _ (ix5 0 0 0 0 p) (by
    rw [Shape.rowMajor_val_five, Shape.rowMajor_val_two]
    show (((0 * 1 + 0) * 1 + 0) * 1 + 0) * 4096 + p.val = 0 * 4096 + p.val
    omega)]

/-- A weighted image summed over the columns is the sample at the drifted place. -/
theorem weighted_sum (dx dy : FVec Ideal S1x4096 .f32) (img : Vec Ideal S1x1x512x64 .bf16) (g : Fin 64 → Fin 64 → EReal)
    (c : Fin 8) (p : Fin 4096) (D E : ℝ) (hD : dx (ix2 0 p) = (D : EReal)) (hE : dy (ix2 0 p) = (E : EReal))
    (hg : ∀ y x, img (ix4 0 0 (line c x) y) = g y x) :
    ∑ x : Fin 64, weighted dx dy img (ix2 (line c x) p) = tap g (colOf (p.val % 64) D) (rowOf (p.val / 64) E) := by
  unfold tap weighted
  refine Finset.sum_congr rfl fun x _ => ?_
  rw [weighted_apply, colWeight_apply dx x p D hD]
  simp only [rowWeight_apply dy _ p E hE, hg]

/-- The sample of the image `n` earlier times back, at channel `c` and lane `p`. -/
def sampleAt (fl : Fin 2 → Fin 4096 → ℕ → ℝ) (im : Fin 8 → ℕ → Fin 64 → Fin 64 → EReal) (t : ℕ) (c : Fin 8) (p : Fin 4096) (n : ℕ) : EReal :=
  tap (im c (t - 1 - n)) (colOf (p.val % 64) (back (fl 0 p) t n)) (rowOf (p.val / 64) (back (fl 1 p) t n))

/-- What is carried after `n` of the earlier times. -/
def Inv (fl : Fin 2 → Fin 4096 → ℕ → ℝ) (im : Fin 8 → ℕ → Fin 64 → Fin 64 → EReal) (here : Fin 8 → Fin 4096 → EReal) (t n : ℕ) (st : Carried) : Prop :=
  (∀ p, st.1 (ix2 0 p) = ((back (fl 0 p) t n : ℝ) : EReal)) ∧ (∀ p, st.2.1 (ix2 0 p) = ((back (fl 1 p) t n : ℝ) : EReal))
    ∧ ∀ c p, st.2.2 (ix2 c p) = here c p + ∑ m ∈ Finset.range n, sampleAt fl im t c p m

section

variable {fl : Fin 2 → Fin 4096 → ℕ → ℝ} {im : Fin 8 → ℕ → Fin 64 → Fin 64 → EReal} {here : Fin 8 → Fin 4096 → EReal} {t : ℕ}

/-- Adding the next flow to a drift. -/
theorem plus_back {d : FVec Ideal S1x4096 .f32} {f : Vec Ideal S1x1x1x1x4096 .f32} {n : ℕ} (h : n < t) (a : Fin 2)
    (hd : ∀ p, d (ix2 0 p) = ((back (fl a p) t n : ℝ) : EReal)) (hf : ∀ p, f (ix5 0 0 0 0 p) = ((fl a p (t - 1 - n) : ℝ) : EReal)) :
    ∀ p, plus d f (ix2 0 p) = ((back (fl a p) t (n + 1) : ℝ) : EReal) := by
  intro p
  rw [plus_apply, hd, hf, ← EReal.coe_add, back_succ _ h]

/-- One weighted image summed over the columns is the sample of that time. -/
theorem weighted_sample {dx dy : FVec Ideal S1x4096 .f32} {img : Vec Ideal S1x1x512x64 .bf16} {n : ℕ}
    (hx : ∀ p, dx (ix2 0 p) = ((back (fl 0 p) t n : ℝ) : EReal)) (hy : ∀ p, dy (ix2 0 p) = ((back (fl 1 p) t n : ℝ) : EReal))
    (hg : ∀ c y x, img (ix4 0 0 (line c x) y) = im c (t - 1 - n) y x) (c : Fin 8) (p : Fin 4096) :
    ∑ x : Fin 64, weighted dx dy img (ix2 (line c x) p) = sampleAt fl im t c p n :=
  weighted_sum dx dy img _ c p _ _ (hx p) (hy p) (hg c)

/-- A trip over one time goes one time further. -/
theorem one_inv {n : ℕ} {acc : Carried} {f g : Vec Ideal S1x1x1x1x4096 .f32} {img : Vec Ideal S1x1x512x64 .bf16} (h : n < t)
    (hacc : Inv fl im here t n acc) (hf : ∀ p, f (ix5 0 0 0 0 p) = ((fl 0 p (t - 1 - n) : ℝ) : EReal))
    (hg : ∀ p, g (ix5 0 0 0 0 p) = ((fl 1 p (t - 1 - n) : ℝ) : EReal)) (hi : ∀ c y x, img (ix4 0 0 (line c x) y) = im c (t - 1 - n) y x) :
    Inv fl im here t (n + 1) (one f g img acc) := by
  obtain ⟨hx, hy, ha⟩ := hacc
  refine ⟨plus_back h 0 hx hf, plus_back h 1 hy hg, fun c p => ?_⟩
  show k0_pay2 pick acc.2.2 (weighted acc.1 acc.2.1 img) (ix2 c p) = _
  rw [gathered_apply, ha, weighted_sample hx hy hi, Finset.sum_range_succ, add_assoc]

/-- A trip over four times goes four times further. -/
theorem four_inv {n : ℕ} {acc : Carried} {f g : Fin 4 → Vec Ideal S1x1x1x1x4096 .f32} {img : Fin 4 → Vec Ideal S1x1x512x64 .bf16} (h : n + 3 < t)
    (hacc : Inv fl im here t n acc) (hf : ∀ r p, f r (ix5 0 0 0 0 p) = ((fl 0 p (t - 1 - (n + r.val)) : ℝ) : EReal))
    (hg : ∀ r p, g r (ix5 0 0 0 0 p) = ((fl 1 p (t - 1 - (n + r.val)) : ℝ) : EReal))
    (hi : ∀ r c y x, img r (ix4 0 0 (line c x) y) = im c (t - 1 - (n + r.val)) y x) :
    Inv fl im here t (n + 4) (four f g img acc) := by
  obtain ⟨hx, hy, ha⟩ := hacc
  have hx1 := plus_back (n := n) (by omega) 0 hx (hf 0)
  have hy1 := plus_back (n := n) (by omega) 1 hy (hg 0)
  have hx2 := plus_back (n := n + 1) (by omega) 0 hx1 (hf 1)
  have hy2 := plus_back (n := n + 1) (by omega) 1 hy1 (hg 1)
  have hx3 := plus_back (n := n + 2) (by omega) 0 hx2 (hf 2)
  have hy3 := plus_back (n := n + 2) (by omega) 1 hy2 (hg 2)
  refine ⟨plus_back (n := n + 3) (by omega) 0 hx3 (hf 3), plus_back (n := n + 3) (by omega) 1 hy3 (hg 3), fun c p => ?_⟩
  unfold four
  dsimp only
  rw [gathered_apply, ha]
  simp only [addf_apply, Finset.sum_add_distrib]
  rw [weighted_sample hx hy (hi 0), weighted_sample hx1 hy1 (hi 1), weighted_sample hx2 hy2 (hi 2), weighted_sample hx3 hy3 (hi 3),
    Finset.sum_range_succ, Finset.sum_range_succ, Finset.sum_range_succ, Finset.sum_range_succ]
  simp only [add_assoc]

end

end Cert.KernelIdeal.Gen

end
-- ==== Proof.Kernel.Block.lean ====
module

public import proofs.«01_k».proof.Proof.Kernel.Steps

/-!
What one grid point leaves in its output block: at time `t` the image block of time `t` plus the samples of all earlier images.
-/

@[expose] public section

set_option maxRecDepth 16384

noncomputable section

open Idealize.ShloMosaic Idealize.ShloMosaic.ValueIdx Idealize.ShloMosaic.TcCoe Idealize.ShloMosaic.Tactic Idealize.SL Idealize.SL.Sem Cert.Warp

namespace Cert.KernelIdeal.Gen

/-- One time's flow component, loaded from the flow block. -/
theorem ld_flow (x0 : Vec Ideal S1x32x2x1x4096 .f32) (off : Fin 5 → ℕ) (inb : ∀ a, off a + S1x1x1x1x4096.size a ≤ S1x32x2x1x4096.size a)
    (s : Fin 32) (a : Fin 2) (h : off = ![0, s.val, a.val, 0, 0]) (p : Fin 4096) :
    View.ld x0 (Rect.unit (s := S1x32x2x1x4096) off S1x1x1x1x4096.size inb) (ix5 0 0 0 0 p) = x0 (ix5 0 s a 0 p) := by
  subst h
  refine View.ld_unit_apply_of x0 _ _ _ _ _ fun b => ?_
  fin_cases b <;> simp [ix5]

/-- One time's image, loaded from the image block. -/
theorem ld_image (x1 : Vec Ideal S1x32x512x64 .bf16) (off : Fin 4 → ℕ) (inb : ∀ a, off a + S1x1x512x64.size a ≤ S1x32x512x64.size a)
    (s : Fin 32) (h : off = ![0, s.val, 0, 0]) (l : Fin 512) (y : Fin 64) :
    View.ld x1 (Rect.unit (s := S1x32x512x64) off S1x1x512x64.size inb) (ix4 0 0 l y) = x1 (ix4 0 s l y) := by
  subst h
  refine View.ld_unit_apply_of x1 _ _ _ _ _ fun b => ?_
  fin_cases b <;> simp [ix4]

/-- The point's store holds the sum that the four loops carry, started from the point's own flow and image. -/
theorem out_eq (c : Dev nD) (i : grid0.Coords) (arg2 : Memref sig .tc .vmem S1x32x2x1x4096 .f32) (harg2 : arg2.IsWhole) (arg3 : Memref sig .tc .vmem S1x32x512x64 .bf16) (harg3 : arg3.IsWhole) (arg4 : Memref sig .tc .vmem S1x1x8x4096 .f32) (harg4 : arg4.IsWhole) (arg5 : Memref sig .tc .vmem S1x1x8x4096 .f32) (harg5 : arg5.IsWhole)
    (x0 : Vec Ideal S1x32x2x1x4096 .f32) (x1 : Vec Ideal S1x32x512x64 .bf16) (x2 : Vec Ideal S1x1x8x4096 .f32) :
    ∃ a1 c0 c1 v124 v141 : BitVec 32,
      out0_A_3 (F := Ideal) c i arg2 harg2 arg3 harg3 arg4 harg4 arg5 harg5 x0 x1 x2
        = k0_pay11 (st_k0_t4 Variants.none c none i arg2 harg2 arg3 harg3 arg4 harg4 arg5 harg5 a1 laneX laneY lines pick v141 (harg2.unread x0) (harg3.unread x1)
            (st_k0_t3 Variants.none c none i arg2 harg2 arg3 harg3 arg4 harg4 arg5 harg5 a1 laneX laneY lines pick (harg2.unread x0) (harg3.unread x1)
              (st_k0_t2 Variants.none c none i arg2 harg2 arg3 harg3 arg4 harg4 arg5 harg5 a1 laneX laneY lines pick v124 (harg2.unread x0) (harg3.unread x1)
                (st_k0_t1 Variants.none c none i arg2 harg2 arg3 harg3 arg4 harg4 arg5 harg5 a1 laneX laneY lines pick c0 c1 (harg2.unread x0) (harg3.unread x1)
                  (k0_pay60 (View.ld x0 (Rect.unit (s := S1x32x2x1x4096) (k0_off1 i) S1x1x1x1x4096.size (k0_off1_inb i))),
                   k0_pay61 (View.ld x0 (Rect.unit (s := S1x32x2x1x4096) (k0_off2 i) S1x1x1x1x4096.size (k0_off2_inb i))),
                   k0_pay59 x2)
                  (k0_t1_loop i).trips)
                (k0_t2_loop i).trips)
              (k0_t3_loop i).trips)
            (k0_t4_loop i).trips).2.2 := by
  apply Exists.intro
  apply Exists.intro
  apply Exists.intro
  apply Exists.intro
  apply Exists.intro
  unfold out0_A_3
  rw [View.read_writes_eq_canon _ _ _ (cover0_A_3 c i arg2 harg2 arg3 harg3 arg4 harg4 arg5 harg5 x0 x1 x2)]
  unfold kernelRun0_A
  dsimp only
  sl_unfold_words
  simp only [View.readAt_eq_ld, harg2.read_unread, harg3.read_unread, harg4.read_unread]
  rw [View.ld_unit_zero (S := S1x1x8x4096) (by funext a; fin_cases a <;> rfl)]
  refine (View.canon_unit_zero (by funext a; fin_cases a <;> rfl) _ _).trans ?_
  rfl

section

variable {fl : Fin 2 → Fin 4096 → ℕ → ℝ} {im : Fin 8 → ℕ → Fin 64 → Fin 64 → EReal} {here : Fin 8 → Fin 4096 → EReal}
  {x0 : Vec Ideal S1x32x2x1x4096 .f32} {x1 : Vec Ideal S1x32x512x64 .bf16} {x2 : Vec Ideal S1x1x8x4096 .f32}

/-- A loaded flow component is the flow of its time. -/
theorem ld_flow_eq (hfl : ∀ (s : Fin 32) a p, x0 (ix5 0 s a 0 p) = ((fl a p s.val : ℝ) : EReal)) (a : Fin 2) (n : ℕ) (hn : n < 32)
    (off : Fin 5 → ℕ) (inb : ∀ b, off b + S1x1x1x1x4096.size b ≤ S1x32x2x1x4096.size b) (h : off = ![0, n, a.val, 0, 0]) (p : Fin 4096) :
    View.ld x0 (Rect.unit (s := S1x32x2x1x4096) off S1x1x1x1x4096.size inb) (ix5 0 0 0 0 p) = ((fl a p n : ℝ) : EReal) :=
  (ld_flow x0 off inb ⟨n, hn⟩ a h p).trans (hfl ⟨n, hn⟩ a p)

/-- A loaded image is the image of its time. -/
theorem ld_image_eq (him : ∀ (s : Fin 32) ch y x, x1 (ix4 0 s (line ch x) y) = im ch s.val y x) (n : ℕ) (hn : n < 32)
    (off : Fin 4 → ℕ) (inb : ∀ b, off b + S1x1x512x64.size b ≤ S1x32x512x64.size b) (h : off = ![0, n, 0, 0]) (ch : Fin 8) (y x : Fin 64) :
    View.ld x1 (Rect.unit (s := S1x32x512x64) off S1x1x512x64.size inb) (ix4 0 0 (line ch x) y) = im ch n y x :=
  (ld_image x1 off inb ⟨n, hn⟩ h (line ch x) y).trans (him ⟨n, hn⟩ ch y x)

/-- Before the loops: the point's own flow, the point's own image. -/
theorem inv_start (i : grid0.Coords) (hfl : ∀ (s : Fin 32) a p, x0 (ix5 0 s a 0 p) = ((fl a p s.val : ℝ) : EReal))
    (hh : ∀ ch p, x2 (ix4 0 0 ch p) = here ch p) :
    Inv fl im here (i 1).val 0
      (k0_pay60 (View.ld x0 (Rect.unit (s := S1x32x2x1x4096) (k0_off1 i) S1x1x1x1x4096.size (k0_off1_inb i))),
       k0_pay61 (View.ld x0 (Rect.unit (s := S1x32x2x1x4096) (k0_off2 i) S1x1x1x1x4096.size (k0_off2_inb i))),
       k0_pay59 x2) := by
  have first : ∀ (f : Vec Ideal S1x1x1x1x4096 .f32) (p : Fin 4096) (z : EReal), f (ix5 0 0 0 0 p) = z → (k0_pay60 f) (ix2 0 p) = z := by
    intro f p z hz
    unfold k0_pay60 k0_pay58
    dsimp only [Scalar.ofBits]
    rw [addf_apply, broadcast_apply, shapeCast_apply _ _ _ (ix5 0 0 0 0 p) (by
      rw [Shape.rowMajor_val_five, Shape.rowMajor_val_two]
      show (((0 * 1 + 0) * 1 + 0) * 1 + 0) * 4096 + p.val = 0 * 4096 + p.val
      omega), hz, bits_zero, EReal.coe_zero, zero_add]
  have ht : (i 1).val < 32 := (i 1).isLt
  refine ⟨fun p => ?_, fun p => ?_, fun ch p => ?_⟩
  · rw [back_zero]
    exact first _ p _ (ld_flow_eq hfl 0 _ ht _ _ (offs0 i).1 p)
  · rw [back_zero]
    exact first _ p _ (ld_flow_eq hfl 1 _ ht _ _ (offs0 i).2 p)
  · rw [Finset.range_zero, Finset.sum_empty, add_zero]
    unfold k0_pay59
    refine (shapeCast_apply _ _ _ (ix4 0 0 ch p) ?_).trans (hh ch p)
    rw [Shape.rowMajor_val_four, Shape.rowMajor_val_two]
    show ((0 * 1 + 0) * 8 + ch.val) * 4096 + p.val = ch.val * 4096 + p.val
    omega

/-- The loop over four times keeps the state. -/
theorem inv_loop1 (c : Dev nD) (i : grid0.Coords) (arg2 : Memref sig .tc .vmem S1x32x2x1x4096 .f32) (harg2 : arg2.IsWhole) (arg3 : Memref sig .tc .vmem S1x32x512x64 .bf16) (harg3 : arg3.IsWhole) (arg4 : Memref sig .tc .vmem S1x1x8x4096 .f32) (harg4 : arg4.IsWhole) (arg5 : Memref sig .tc .vmem S1x1x8x4096 .f32) (harg5 : arg5.IsWhole) (a1 c0 c1 : BitVec 32)
    (hfl : ∀ (s : Fin 32) a p, x0 (ix5 0 s a 0 p) = ((fl a p s.val : ℝ) : EReal))
    (him : ∀ (s : Fin 32) ch y x, x1 (ix4 0 s (line ch x) y) = im ch s.val y x)
    {init : Carried} (h0 : Inv fl im here (i 1).val 0 init) (k : ℕ) (hk : k ≤ (k0_t1_loop i).trips) :
    Inv fl im here (i 1).val (4 * k) (st_k0_t1 (F := Ideal) Variants.none c none i arg2 harg2 arg3 harg3 arg4 harg4 arg5 harg5 a1 laneX laneY lines pick c0 c1 (harg2.unread x0) (harg3.unread x1) init k) := by
  induction k with
  | zero => exact h0
  | succ k ih =>
    have hlt : k < (k0_t1_loop i).trips := hk
    have htr := (trips_eq i).1
    have ht : (i 1).val < 32 := (i 1).isLt
    have e := st_k0_t1_succ (F := Ideal) Variants.none c none i arg2 harg2 arg3 harg3 arg4 harg4 arg5 harg5 a1 laneX laneY lines pick c0 c1 (harg2.unread x0) (harg3.unread x1) init ⟨k, hlt⟩
    rw [trip1] at e
    rw [e]
    exact four_inv (n := 4 * k) (by omega) (ih (le_of_lt hlt))
      (fun r p => ld_flow_eq hfl 0 _ (by omega) _ _ (offs1 i ⟨k, hlt⟩ r).1 p)
      (fun r p => ld_flow_eq hfl 1 _ (by omega) _ _ (offs1 i ⟨k, hlt⟩ r).2.1 p)
      (fun r ch y x => ld_image_eq him _ (by omega) _ _ (offs1 i ⟨k, hlt⟩ r).2.2 ch y x)

/-- The loop over the remaining times keeps the state. -/
theorem inv_loop3 (c : Dev nD) (i : grid0.Coords) (arg2 : Memref sig .tc .vmem S1x32x2x1x4096 .f32) (harg2 : arg2.IsWhole) (arg3 : Memref sig .tc .vmem S1x32x512x64 .bf16) (harg3 : arg3.IsWhole) (arg4 : Memref sig .tc .vmem S1x1x8x4096 .f32) (harg4 : arg4.IsWhole) (arg5 : Memref sig .tc .vmem S1x1x8x4096 .f32) (harg5 : arg5.IsWhole) (a1 : BitVec 32)
    (hfl : ∀ (s : Fin 32) a p, x0 (ix5 0 s a 0 p) = ((fl a p s.val : ℝ) : EReal))
    (him : ∀ (s : Fin 32) ch y x, x1 (ix4 0 s (line ch x) y) = im ch s.val y x)
    {init : Carried} (h0 : Inv fl im here (i 1).val (4 * ((i 1).val / 4)) init) (k : ℕ) (hk : k ≤ (k0_t3_loop i).trips) :
    Inv fl im here (i 1).val (4 * ((i 1).val / 4) + k) (st_k0_t3 (F := Ideal) Variants.none c none i arg2 harg2 arg3 harg3 arg4 harg4 arg5 harg5 a1 laneX laneY lines pick (harg2.unread x0) (harg3.unread x1) init k) := by
  induction k with
  | zero => exact h0
  | succ k ih =>
    have hlt : k < (k0_t3_loop i).trips := hk
    have htr := (trips_eq i).2
    have ht : (i 1).val < 32 := (i 1).isLt
    have e := st_k0_t3_succ (F := Ideal) Variants.none c none i arg2 harg2 arg3 harg3 arg4 harg4 arg5 harg5 a1 laneX laneY lines pick (harg2.unread x0) (harg3.unread x1) init ⟨k, hlt⟩
    rw [trip3] at e
    rw [e]
    exact one_inv (n := 4 * ((i 1).val / 4) + k) (by omega) (ih (le_of_lt hlt))
      (fun p => ld_flow_eq hfl 0 _ (by omega) _ _ (offs3 i ⟨k, hlt⟩).1 p)
      (fun p => ld_flow_eq hfl 1 _ (by omega) _ _ (offs3 i ⟨k, hlt⟩).2.1 p)
      (fun ch y x => ld_image_eq him _ (by omega) _ _ (offs3 i ⟨k, hlt⟩).2.2 ch y x)

/-- The samples taken going back from `t` are those of the earlier times, in the other order. -/
theorem samples_eq (t : ℕ) (ch : Fin 8) (p : Fin 4096) :
    here ch p + ∑ n ∈ Finset.range t, sampleAt fl im t ch p n = warped (im ch) (fl 0 p) (fl 1 p) t (p.val / 64) (p.val % 64) (here ch p) := by
  unfold warped
  rw [← Finset.sum_range_reflect]
  congr 1
  refine Finset.sum_congr rfl fun n hn => ?_
  have hn' : n < t := Finset.mem_range.mp hn
  have e : t - 1 - (t - 1 - n) = n := by omega
  unfold sampleAt
  rw [back_eq_drift _ (by omega), back_eq_drift _ (by omega), e]

/-- What the grid point leaves at channel `ch`, lane `p` of its output block. -/
theorem out_apply (c : Dev nD) (i : grid0.Coords) (arg2 : Memref sig .tc .vmem S1x32x2x1x4096 .f32) (harg2 : arg2.IsWhole) (arg3 : Memref sig .tc .vmem S1x32x512x64 .bf16) (harg3 : arg3.IsWhole) (arg4 : Memref sig .tc .vmem S1x1x8x4096 .f32) (harg4 : arg4.IsWhole) (arg5 : Memref sig .tc .vmem S1x1x8x4096 .f32) (harg5 : arg5.IsWhole)
    (hfl : ∀ (s : Fin 32) a p, x0 (ix5 0 s a 0 p) = ((fl a p s.val : ℝ) : EReal))
    (him : ∀ (s : Fin 32) ch y x, x1 (ix4 0 s (line ch x) y) = im ch s.val y x)
    (hh : ∀ ch p, x2 (ix4 0 0 ch p) = here ch p) (ch : Fin 8) (p : Fin 4096) :
    out0_A_3 (F := Ideal) c i arg2 harg2 arg3 harg3 arg4 harg4 arg5 harg5 x0 x1 x2 (ix4 0 0 ch p)
      = warped (im ch) (fl 0 p) (fl 1 p) (i 1).val (p.val / 64) (p.val % 64) (here ch p) := by
  obtain ⟨a1, c0, c1, v124, v141, e⟩ := out_eq c i arg2 harg2 arg3 harg3 arg4 harg4 arg5 harg5 x0 x1 x2
  have z2 : (k0_t2_loop i).trips = 0 := Nat.le_zero.mp (k0_t2_abs i).2.1
  have z4 : (k0_t4_loop i).trips = 0 := Nat.le_zero.mp (k0_t4_abs i).2.1
  have h1 := inv_loop1 (here := here) c i arg2 harg2 arg3 harg3 arg4 harg4 arg5 harg5 a1 c0 c1 hfl him (inv_start i hfl hh) (k0_t1_loop i).trips le_rfl
  have et : 4 * (k0_t1_loop i).trips = 4 * ((i 1).val / 4) := by rw [(trips_eq i).1]
  rw [et] at h1
  have h3 := inv_loop3 c i arg2 harg2 arg3 harg3 arg4 harg4 arg5 harg5 a1 hfl him h1 (k0_t3_loop i).trips le_rfl
  have et3 : 4 * ((i 1).val / 4) + (k0_t3_loop i).trips = (i 1).val := by rw [(trips_eq i).2]; omega
  rw [et3] at h3
  rw [e, z2, z4, st_k0_t2_zero, st_k0_t4_zero, ← samples_eq, ← h3.2.2 ch p]
  unfold k0_pay11
  refine shapeCast_apply _ _ _ (ix2 ch p) ?_
  rw [Shape.rowMajor_val_four, Shape.rowMajor_val_two]
  show ch.val * 4096 + p.val = ((0 * 1 + 0) * 8 + ch.val) * 4096 + p.val
  omega

end

end Cert.KernelIdeal.Gen

end
-- ==== Proof.Kernel.Array.lean ====
module

public import proofs.«01_k».proof.Proof.Kernel.Block
public import proofs.«01_k».proof.Proof.Target
public import proofs.«01_k».proof.Proof.Gen.KernelIdeal.Value
public import Idealize.ShloMosaic.Lib.Pipeline.ValueKit.Geometry

/-!
What the kernel's result array holds after the run, index by index: the arrays that the host lays out for the kernel, the blocks
that a grid point reads of them, and the block that it writes.
-/

@[expose] public section

set_option maxRecDepth 16384

noncomputable section

open Idealize.ShloMosaic Idealize.ShloMosaic.ValueIdx Idealize.ShloMosaic.TcCoe Idealize.SL Idealize.SL.Sem Cert.Warp

namespace Cert.KernelIdeal.Result

open Cert.KernelIdeal Cert.KernelIdeal.Gen

variable (m : (ℓ : Loc nD τ sig) → Buf (Elt Ideal) ℓ)

/-- The flows as launched on device `c`. -/
abbrev flows (c : Dev nD) : Vec Ideal S2x32x2x64x64 .f32 := m ((c : Thread nD τ).loc main_arg0)

/-- The images as launched on device `c`. -/
abbrev images (c : Dev nD) : Vec Ideal S2x32x8x64x64 .f32 := m ((c : Thread nD τ).loc main_arg1)

/-- The flows as the kernel finds them: the same numbers, the pixels in one line. -/
theorem flows_laid (c : Dev nD) :
    V m c main_v4 = shapeCast S2x32x2x1x4096 (flows m c) shapeCasts_S2x32x2x64x64_S2x32x2x1x4096 := by
  show StableHlo.after hostOps0 _ (Proc.devRef .tc main_v4) = _
  after_results
  rfl

/-- The images as the kernel adds them: the same numbers, the pixels in one line. -/
theorem images_laid (c : Dev nD) :
    V m c main_v3 = shapeCast S2x32x8x4096 (images m c) shapeCasts_S2x32x8x64x64_S2x32x8x4096 := by
  show StableHlo.after hostOps0 _ (Proc.devRef .tc main_v3) = _
  after_results
  rfl

/-- The images as the kernel samples them: rows and columns exchanged, channels and columns in one line. -/
theorem columns_laid (c : Dev nD) :
    V m c main_v2 = (truncf (F := Ideal) .bf16 (shapeCast S2x32x512x64
      (transpose S2x32x8x64x64 [0, 1, 2, 4, 3] (images m c) transposes_S2x32x8x64x64_S2x32x8x64x64_0_1_2_4_3)
      shapeCasts_S2x32x8x64x64_S2x32x512x64) bitsLt_bf16_f32 : FVec Ideal S2x32x512x64 .bf16) := by
  show StableHlo.after hostOps0 _ (Proc.devRef .tc main_v2) = _
  after_results
  rfl

/-- The laid flows at an index. -/
theorem flows_laid_apply (c : Dev nD) (b : Fin 2) (s : Fin 32) (a : Fin 2) (p : Fin 4096) :
    V m c main_v4 (ix5 b s a 0 p) = flows m c (ix5 b s a (rowP p) (colP p)) := by
  rw [flows_laid]
  refine shapeCast_apply _ _ _ (ix5 b s a (rowP p) (colP p)) ?_
  rw [Shape.rowMajor_val_five, Shape.rowMajor_val_five]
  show (((b.val * 32 + s.val) * 2 + a.val) * 64 + p.val / 64) * 64 + p.val % 64 = (((b.val * 32 + s.val) * 2 + a.val) * 1 + 0) * 4096 + p.val
  omega

/-- The laid images at an index. -/
theorem images_laid_apply (c : Dev nD) (b : Fin 2) (s : Fin 32) (ch : Fin 8) (p : Fin 4096) :
    V m c main_v3 (ix4 b s ch p) = images m c (ix5 b s ch (rowP p) (colP p)) := by
  rw [images_laid]
  refine shapeCast_apply _ _ _ (ix5 b s ch (rowP p) (colP p)) ?_
  rw [Shape.rowMajor_val_five, Shape.rowMajor_val_four]
  show (((b.val * 32 + s.val) * 8 + ch.val) * 64 + p.val / 64) * 64 + p.val % 64 = ((b.val * 32 + s.val) * 8 + ch.val) * 4096 + p.val
  omega

/-- The columns at an index. -/
theorem columns_laid_apply (c : Dev nD) (b : Fin 2) (s : Fin 32) (ch : Fin 8) (x y : Fin 64) :
    V m c main_v2 (ix4 b s (line ch x) y) = images m c (ix5 b s ch y x) := by
  rw [columns_laid, truncf_apply]
  refine (shapeCast_apply _ _ _ (ix5 b s ch x y) ?_).trans ?_
  · rw [Shape.rowMajor_val_five, Shape.rowMajor_val_four]
    show (((b.val * 32 + s.val) * 8 + ch.val) * 64 + x.val) * 64 + y.val = ((b.val * 32 + s.val) * 512 + (ch.val * 64 + x.val)) * 64 + y.val
    omega
  · refine transpose_apply _ _ _ _ (ix5 b s ch y x) fun a => ?_
    fin_cases a <;> rfl

/-- Which block of each array a grid point takes: the flows and the columns of its batch, the image of its batch and time. -/
theorem block_index : ∀ t : Fin cfg0.N,
    win0_0.index t = ![(grid0.coords t 0).val, 0, 0, 0, 0] ∧ win0_1.index t = ![(grid0.coords t 0).val, 0, 0, 0]
      ∧ win0_2.index t = ![(grid0.coords t 0).val, (grid0.coords t 1).val, 0, 0]
      ∧ win0_3.index t = ![(grid0.coords t 0).val, (grid0.coords t 1).val, 0, 0] :=
  (by decide +kernel : ∀ t : Fin grid0.N, _)

/-- A grid point's batch. -/
def batch (t : Fin cfg0.N) : Fin 2 := grid0.coords t 0

/-- A grid point's time. -/
def stage (t : Fin cfg0.N) : Fin 32 := grid0.coords t 1

/-- The flow block of a grid point. -/
theorem flow_block (c : Dev nD) (t : Fin cfg0.N) (s : Fin 32) (a : Fin 2) (p : Fin 4096) :
    iblk m c 0 t (ix5 0 s a 0 p) = flows m c (ix5 (batch t) s a (rowP p) (colP p)) := by
  refine Eq.trans ?_ (flows_laid_apply m c (batch t) s a p)
  show V m c main_v4 (((cfg0.win 0).blk t).view.emb (ix5 0 s a 0 p)) = _
  congr 1
  have e := (block_index t).1
  funext k
  refine Fin.ext ((win0_0.rect_emb_val t (ix5 0 s a 0 p) k).trans ?_)
  rw [e]
  fin_cases k <;> simp [ix5, batch]

/-- The columns block of a grid point. -/
theorem columns_block (c : Dev nD) (t : Fin cfg0.N) (s : Fin 32) (ch : Fin 8) (x y : Fin 64) :
    iblk m c 1 t (ix4 0 s (line ch x) y) = images m c (ix5 (batch t) s ch y x) := by
  refine Eq.trans ?_ (columns_laid_apply m c (batch t) s ch x y)
  show V m c main_v2 (((cfg0.win 1).blk t).view.emb (ix4 0 s (line ch x) y)) = _
  congr 1
  have e := (block_index t).2.1
  funext k
  refine Fin.ext ((win0_1.rect_emb_val t (ix4 0 s (line ch x) y) k).trans ?_)
  rw [e]
  fin_cases k <;> simp [ix4, batch]

/-- The image block of a grid point. -/
theorem image_block (c : Dev nD) (t : Fin cfg0.N) (ch : Fin 8) (p : Fin 4096) :
    iblk m c 2 t (ix4 0 0 ch p) = images m c (ix5 (batch t) (stage t) ch (rowP p) (colP p)) := by
  refine Eq.trans ?_ (images_laid_apply m c (batch t) (stage t) ch p)
  show V m c main_v3 (((cfg0.win 2).blk t).view.emb (ix4 0 0 ch p)) = _
  congr 1
  have e := (block_index t).2.2.1
  funext k
  refine Fin.ext ((win0_2.rect_emb_val t (ix4 0 0 ch p) k).trans ?_)
  rw [e]
  fin_cases k <;> simp [ix4, batch, stage]

/-- The result array as one function of the flows and the images. -/
def result (c : Dev nD) : Vec Ideal S2x32x8x4096 .f32 := fun j =>
  target (flows m c) (images m c) (j 0) (j 1) (j 2) (rowP (j 3)) (colP (j 3))

/-- What a grid point leaves in its output block is the result there. -/
theorem point_apply (c : Dev nD) (hf : Finite (flows m c)) (t : Fin cfg0.N) (ch : Fin 8) (p : Fin 4096) :
    outsAt0 m c t (ix4 0 0 ch p) = target (flows m c) (images m c) (batch t) (stage t) ch (rowP p) (colP p) := by
  unfold outsAt0
  refine (out_apply (fl := fun a p s => flowAt (flows m c) (batch t) a (rowP p) (colP p) s)
    (im := fun ch s y x => imageAt (images m c) (batch t) ch s y x)
    (here := fun ch p => images m c (ix5 (batch t) (stage t) ch (rowP p) (colP p)))
    c (grid0.coords t) _ _ _ _ _ _ _ _ ?_ ?_ ?_ ch p).trans ?_
  · intro s a p
    unfold flowAt
    rw [time_val]
    exact (flow_block m c t s a p).trans (hf _ _ _ _ _)
  · intro s ch y x
    unfold imageAt
    rw [time_val]
    exact columns_block m c t s ch x y
  · exact image_block m c t
  · rfl

/-- A grid point's output block, placed in the result array: its batch, its time. -/
theorem out_place (t : Fin cfg0.N) (y : S1x1x8x4096.Idx) :
    ((cfg0.win 3).blk t).view.emb y = ix4 (batch t) (stage t) (y 2) (y 3) := by
  have e := (block_index t).2.2.2
  have h0 : (y 0).val = 0 := by have := (y 0).isLt; exact Nat.lt_one_iff.mp this
  have h1 : (y 1).val = 0 := by have := (y 1).isLt; exact Nat.lt_one_iff.mp this
  funext k
  refine Fin.ext ((win0_3.rect_emb_val t y k).trans ?_)
  rw [e]
  fin_cases k <;> simp [ix4, batch, stage, h0, h1]

/-- What a grid point leaves in its output block, at any index of the block. -/
theorem point_eq (c : Dev nD) (hf : Finite (flows m c)) (t : Fin cfg0.N) (y : S1x1x8x4096.Idx) :
    outsAt0 m c t y = result m c (((cfg0.win 3).blk t).view.emb y) := by
  have hy : y = ix4 0 0 (y 2) (y 3) := by
    refine (eq_ix4 y).trans ?_
    have h0 : y 0 = (0 : Fin 1) := Subsingleton.elim (α := Fin 1) _ _
    have h1 : y 1 = (0 : Fin 1) := Subsingleton.elim (α := Fin 1) _ _
    rw [h0, h1]
    rfl
  rw [out_place]
  refine (congrArg (outsAt0 m c t) hy).trans ?_
  exact point_apply m c hf t (y 2) (y 3)

/-- The output blocks cover the result array. -/
theorem covers : (cfg0.win 3).Covers := by decide +kernel

/-- What a grid point writes back is its block of the result. -/
theorem flushed_eq (c : Dev nD) (hf : Finite (flows m c)) (t : Fin cfg0.N) :
    (dats m 0 c).flushed 3 t = ((cfg0.win 3).blk t).view.read (Elt Ideal) (result m c) := by
  rw [Value.flushed3]
  funext y
  exact point_eq m c hf t y

/-- After the run the result array is the result. -/
theorem final (c : Dev nD) (hf : Finite (flows m c)) : (dats m 0 c).arrAt 3 cfg0.N = result m c :=
  (dats m 0 c).arrAt_eq_of_cover 3 (result m c) (fun t _ => flushed_eq m c hf t) (covers.cover _ (Memref.isWhole_whole _))

end Cert.KernelIdeal.Result

end
-- ==== Proof.Reference.Sums.lean ====
module

public import proofs.«01_k».proof.Proof.Gen.ReferenceIdeal
public import proofs.«01_k».proof.Proof.Target
public import proofs.«01_k».proof.Proof.Consts
public import Idealize.ShloMosaic.Lib.Pipeline.Value

/-!
The reference's running sums of the flows over time.
-/

@[expose] public section

noncomputable section

open Cert.ReferenceIdeal Cert.ReferenceIdeal.Gen Idealize.ShloMosaic Idealize.ShloMosaic.ValueIdx

namespace Cert.Warp.Ref

/-- The window of the running sum: every time, one of everything else. -/
abbrev Window : Shape := ⟨5, ![1, 32, 1, 1, 1]⟩

/-- The running sums over time. -/
def sums (x0 : FVec Ideal S2x32x2x64x64 .f32) : FVec Ideal S2x32x2x64x64 .f32 :=
  Host.reduceWindowAdd (F := Ideal) (φ := .f32) ![1, 32, 1, 1, 1] ![1, 1, 1, 1, 1] ![0, 31, 0, 0, 0] ![0, 0, 0, 0, 0] x0
    (broadcastInDim S_ ![] bcast_S_S_ (constant (F := Ideal) S_ .f32 0x00000000#32))
    reduceWindows_S2x32x2x64x64_S2x32x2x64x64_w1s1p0_0_w32s1p31_0_w1s1p0_0_w1s1p0_0_w1s1p0_0 h_S_

/-- Place `n` of the window is time `n`. -/
theorem window_place (n : Fin Window.numel) :
    Window.rowMajor.symm n = ix5 (0 : Fin 1) (⟨n.val, n.isLt⟩ : Fin 32) (0 : Fin 1) (0 : Fin 1) (0 : Fin 1) := by
  rw [Equiv.symm_apply_eq]
  refine Fin.ext ?_
  rw [Shape.rowMajor_val_five]
  simp [ix5]

/-- Adding up along a list. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A sum over a window that ends at time `s`, zero before the first time. -/
theorem window_sum (f : ℕ → ℝ) (s : ℕ) (hs : s < 32) :
    ∑ n ∈ Finset.range 32, (if 31 ≤ s + n then f (s + n - 31) else 0) = ∑ j ∈ Finset.range (s + 1), f j := by
  have h32 : 32 = (31 - s) + (s + 1) := by omega
  rw [h32, Finset.sum_range_add, Finset.sum_eq_zero, zero_add]
  · refine Finset.sum_congr rfl fun j _ => ?_
    rw [if_pos (by omega)]
    congr 1
    omega
  · intro j hj
    rw [Finset.mem_range] at hj
    rw [if_neg (by omega)]

/-- What the window holds at its place `w`. -/
def placed (x0 : FVec Ideal S2x32x2x64x64 .f32) (b : Fin 2) (s : Fin 32) (a : Fin 2) (y x : Fin 64) (w : Window.Idx) : EReal :=
  let p : Fin 5 → ℕ := fun c => ((ix5 b s a y x : S2x32x2x64x64.Idx) c).val * (![1, 1, 1, 1, 1] : Fin 5 → ℕ) c + (w c).val
  if hin : ∀ c : Fin 5, (![0, 31, 0, 0, 0] : Fin 5 → ℕ) c ≤ p c ∧ p c - (![0, 31, 0, 0, 0] : Fin 5 → ℕ) c < S2x32x2x64x64.size c
    then x0 (fun c => ⟨p c - (![0, 31, 0, 0, 0] : Fin 5 → ℕ) c, (hin c).2⟩)
    else Ideal.ofBits .f32 0x00000000#32

/-- The window holds the flow of the time that many places before the last, zero before the first time. -/
theorem placed_eq (x0 : FVec Ideal S2x32x2x64x64 .f32) (hf : Finite x0) (b : Fin 2) (s : Fin 32) (a : Fin 2) (y x : Fin 64)
    (n : Fin Window.numel) :
    placed x0 b s a y x (Window.rowMajor.symm n) = (((if 31 ≤ s.val + n.val then flowAt x0 b a y x (s.val + n.val - 31) else 0) : ℝ) : EReal) := by
  have hn : n.val < 32 := n.isLt
  have hs := s.isLt
  have hb := b.isLt
  have ha := a.isLt
  have hy := y.isLt
  have hx := x.isLt
  rw [window_place]
  unfold placed
  dsimp only
  by_cases h : 31 ≤ s.val + n.val
  · rw [dif_pos, if_pos h]
    · unfold flowAt
      rw [← hf]
      refine congrArg x0 (funext fun c => Fin.ext ?_)
      match c with
      | ⟨0, _⟩ => show b.val * 1 + 0 - 0 = b.val; omega
      | ⟨1, _⟩ => show s.val * 1 + n.val - 31 = (s.val + n.val - 31) % 32; omega
      | ⟨2, _⟩ => show a.val * 1 + 0 - 0 = a.val; omega
      | ⟨3, _⟩ => show y.val * 1 + 0 - 0 = y.val; omega
      | ⟨4, _⟩ => show x.val * 1 + 0 - 0 = x.val; omega
    · intro c
      match c with
      | ⟨0, _⟩ => show 0 ≤ b.val * 1 + 0 ∧ b.val * 1 + 0 - 0 < 2; omega
      | ⟨1, _⟩ => show 31 ≤ s.val * 1 + n.val ∧ s.val * 1 + n.val - 31 < 32; omega
      | ⟨2, _⟩ => show 0 ≤ a.val * 1 + 0 ∧ a.val * 1 + 0 - 0 < 2; omega
      | ⟨3, _⟩ => show 0 ≤ y.val * 1 + 0 ∧ y.val * 1 + 0 - 0 < 64; omega
      | ⟨4, _⟩ => show 0 ≤ x.val * 1 + 0 ∧ x.val * 1 + 0 - 0 < 64; omega
  · rw [dif_neg, if_neg h, bits_zero]
    intro hin
    have h1 : 31 ≤ s.val * 1 + n.val := (hin 1).1
    omega

/-- A sum of reals is the real sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The running sum at time `s` adds up the flows of the times up to `s`. -/
theorem sums_apply (x0 : FVec Ideal S2x32x2x64x64 .f32) (hf : Finite x0) (b : Fin 2) (s : Fin 32) (a : Fin 2) (y x : Fin 64) :
    sums x0 (ix5 b s a y x) = ((∑ j ∈ Finset.range (s.val + 1), flowAt x0 b a y x j : ℝ) : EReal) := by
  have h : sums x0 (ix5 b s a y x)
      = (List.finRange Window.numel).foldl (fun r n => r + placed x0 b s a y x (Window.rowMajor.symm n))
        (Ideal.ofBits .f32 0x00000000#32) := by
    unfold sums Host.reduceWindowAdd
    rw [Ideal.hostReduceWindowAdd_def]
    unfold Ideal.hostReduceWindowAdd Host.reduceWindow
    refine congrArg (fun f => List.foldl f _ _) (funext fun r => funext fun n => congrArg (fun z => r + z) ?_)
    unfold placed
    dsimp only
    split
    · next hin => symm; refine (dif_pos ?_).trans ?_; exacts [hin, rfl]
    · next hin => symm; refine (dif_neg ?_).trans ?_; exacts [hin, rfl]
  rw [h, foldl_add, ← Fin.sum_univ_def, bits_zero, EReal.coe_zero, zero_add]
  simp only [placed_eq x0 hf]
  rw [coe_sum]
  refine congrArg _ ?_
  rw [← window_sum (flowAt x0 b a y x) s.val s.isLt]
  exact Fin.sum_univ_eq_sum_range (fun n => if 31 ≤ s.val + n then flowAt x0 b a y x (s.val + n - 31) else 0) 32

end Cert.Warp.Ref

end
-- ==== Proof.Reference.Gather.lean ====
module

public import proofs.«01_k».proof.Proof.Gen.ReferenceIdeal
public import proofs.«01_k».proof.Proof.Target
public import Idealize.ShloMosaic.Lib.ValueIdxRank6
public import Idealize.ShloMosaic.Lib.Pipeline.Value

/-!
The reference's look-up of image entries: the four index numbers put side by side, and the entry they select.
-/

@[expose] public section

noncomputable section

open Cert.ReferenceIdeal Cert.ReferenceIdeal.Gen Idealize.ShloMosaic Idealize.ShloMosaic.ValueIdx

namespace Cert.Warp.Ref

/-- One number per batch, time, earlier time, row and column. -/
abbrev Grid : Type := FVec Ideal S2x32x32x64x64 .f32

/-- One whole number per batch, time, earlier time, row and column. -/
abbrev IGrid : Type := IVec S2x32x32x64x64 32

/-- A grid with a new last axis of one entry. -/
def unitLast {α : Type} (g : S2x32x32x64x64.Idx → α) : S2x32x32x64x64x1.Idx → α :=
  broadcastInDim S2x32x32x64x64x1 ![0, 1, 2, 3, 4] bcast_S2x32x32x64x64_S2x32x32x64x64x1_0_1_2_3_4 g

/-- The new axis holds the grid's entry. -/
theorem unitLast_apply {α : Type} (g : S2x32x32x64x64.Idx → α) (b : Fin 2) (t k : Fin 32) (y x : Fin 64) (e : Fin 1) :
    unitLast g (ix6 b t k y x e) = g (ix5 b t k y x) :=
  broadcastInDim_apply _ _ _ _ _ (fun a => match a with
    | ⟨0, _⟩ => rfl | ⟨1, _⟩ => rfl | ⟨2, _⟩ => rfl | ⟨3, _⟩ => rfl | ⟨4, _⟩ => rfl)

/-- A grid with a new last axis of eight equal entries. -/
def eightLast {α : Type} (g : S2x32x32x64x64.Idx → α) : S2x32x32x64x64x8.Idx → α :=
  broadcastInDim S2x32x32x64x64x8 ![0, 1, 2, 3, 4, 5] bcast_S2x32x32x64x64x1_S2x32x32x64x64x8_0_1_2_3_4_5 (unitLast g)

/-- Every entry of the new axis is the grid's. -/
theorem eightLast_apply {α : Type} (g : S2x32x32x64x64.Idx → α) (b : Fin 2) (t k : Fin 32) (y x : Fin 64) (ch : Fin 8) :
    eightLast g (ix6 b t k y x ch) = g (ix5 b t k y x) :=
  (broadcastInDim_apply _ _ _ _ (ix6 b t k y x (0 : Fin 1)) (fun a => match a with
    | ⟨0, _⟩ => rfl | ⟨1, _⟩ => rfl | ⟨2, _⟩ => rfl | ⟨3, _⟩ => rfl | ⟨4, _⟩ => rfl | ⟨5, _⟩ => rfl)).trans
    (unitLast_apply g b t k y x 0)

/-- The batch number everywhere. -/
def batchNo : IVec S2x32x32x64x64 32 :=
  broadcastInDim S2x32x32x64x64 ![0, 1, 2, 3, 4] bcast_S2x1x1x1x1_S2x32x32x64x64_0_1_2_3_4
    (broadcastInDim S2x1x1x1x1 ![0] bcast_S2_S2x1x1x1x1_0 (iotaInDim S2 32 0))

/-- The earlier time's number everywhere. -/
def timeNo : IVec S2x32x32x64x64 32 :=
  broadcastInDim S2x32x32x64x64 ![0, 1, 2, 3, 4] bcast_S1x1x32x1x1_S2x32x32x64x64_0_1_2_3_4
    (broadcastInDim S1x1x32x1x1 ![2] bcast_S32_S1x1x32x1x1_2 (iotaInDim S32 32 0))

/-- The batch number is the batch coordinate. -/
theorem batchNo_apply (b : Fin 2) (t k : Fin 32) (y x : Fin 64) : batchNo (ix5 b t k y x) = BitVec.ofNat 32 b.val :=
  ((broadcastInDim_apply _ _ _ _ (ix5 b (0 : Fin 1) (0 : Fin 1) (0 : Fin 1) (0 : Fin 1)) (fun a => match a with
    | ⟨0, _⟩ => rfl | ⟨1, _⟩ => rfl | ⟨2, _⟩ => rfl | ⟨3, _⟩ => rfl | ⟨4, _⟩ => rfl)).trans
    (broadcastInDim_apply _ _ _ _ (ix1 b) (fun a => match a with | ⟨0, _⟩ => rfl))).trans rfl

/-- The time number is the earlier time's coordinate. -/
theorem timeNo_apply (b : Fin 2) (t k : Fin 32) (y x : Fin 64) : timeNo (ix5 b t k y x) = BitVec.ofNat 32 k.val :=
  ((broadcastInDim_apply _ _ _ _ (ix5 (0 : Fin 1) (0 : Fin 1) k (0 : Fin 1) (0 : Fin 1)) (fun a => match a with
    | ⟨0, _⟩ => rfl | ⟨1, _⟩ => rfl | ⟨2, _⟩ => rfl | ⟨3, _⟩ => rfl | ⟨4, _⟩ => rfl)).trans
    (broadcastInDim_apply _ _ _ _ (ix1 k) (fun a => match a with | ⟨0, _⟩ => rfl))).trans rfl

/-- The four index numbers side by side: batch, time, row, column. -/
def indices (row col : IGrid) : IVec S2x32x32x64x64x4 32 :=
  concatenate S2x32x32x64x64x4 5
    [⟨S2x32x32x64x64x1, (unitLast batchNo : (⟨S2x32x32x64x64x1, .i32⟩ : BufTy).Contents (Elt Ideal))⟩,
     ⟨S2x32x32x64x64x1, (unitLast timeNo : (⟨S2x32x32x64x64x1, .i32⟩ : BufTy).Contents (Elt Ideal))⟩,
     ⟨S2x32x32x64x64x1, (unitLast row : (⟨S2x32x32x64x64x1, .i32⟩ : BufTy).Contents (Elt Ideal))⟩,
     ⟨S2x32x32x64x64x1, (unitLast col : (⟨S2x32x32x64x64x1, .i32⟩ : BufTy).Contents (Elt Ideal))⟩]
    concatenates_S2x32x32x64x64x1_S2x32x32x64x64x1_S2x32x32x64x64x1_S2x32x32x64x64x1_S2x32x32x64x64x4_d5

/-- Index number `n` is the `n`-th of the four. -/
theorem indices_apply (row col : IGrid) (b : Fin 2) (t k : Fin 32) (y x : Fin 64) (n : Fin 4) :
    indices row col (ix6 b t k y x n)
      = (![batchNo, timeNo, row, col] : Fin 4 → IVec S2x32x32x64x64 32) n (ix5 b t k y x) := by
  refine (concatenate_ofFn_unit_apply (t := S2x32x32x64x64x4) (s₁ := S2x32x32x64x64x1) 5
    (fun n : Fin 4 => unitLast ((![batchNo, timeNo, row, col] : Fin 4 → IVec S2x32x32x64x64 32) n))
    concatenates_S2x32x32x64x64x1_S2x32x32x64x64x1_S2x32x32x64x64x1_S2x32x32x64x64x1_S2x32x32x64x64x4_d5 rfl rfl
    (ix6 b t k y x n) n rfl (ix6 b t k y x (0 : Fin 1)) ?_).trans (unitLast_apply _ b t k y x 0)
  intro a ha
  match a with
  | ⟨0, _⟩ => rfl
  | ⟨1, _⟩ => rfl
  | ⟨2, _⟩ => rfl
  | ⟨3, _⟩ => rfl
  | ⟨4, _⟩ => rfl
  | ⟨5, _⟩ => exact absurd rfl ha

/-- The image entries the index numbers select. -/
def looked (x1 : (⟨S2x32x8x64x64, .f32⟩ : BufTy).Contents (Elt Ideal)) (row col : IGrid) :
    (⟨S2x32x32x64x64x8, .f32⟩ : BufTy).Contents (Elt Ideal) :=
  Host.gather gather_S2x32x8x64x64_S2x32x32x64x64x4_S2x32x32x64x64x8_5_0134_n_n_0134_5_11811 x1 (indices row col)

/-- An index number as the start of a slice. -/
theorem start_eq (idx : IVec S2x32x32x64x64x4 32) (b : Fin 2) (t k : Fin 32) (y x : Fin 64) (ch : Fin 8)
    (a : Fin 5) (n : Fin 4) (ha : a ∈ ([0, 1, 3, 4] : List (Fin 5))) (hn : ([0, 1, 3, 4] : List (Fin 5)).idxOf a = n.val) :
    (gather_S2x32x8x64x64_S2x32x32x64x64x4_S2x32x32x64x64x8_5_0134_n_n_0134_5_11811).start (ix6 b t k y x ch) idx a
      = min (idx (ix6 b t k y x n)).toInt.toNat (S2x32x8x64x64.size a - (![1, 1, 8, 1, 1] : Fin 5 → ℕ) a) := by
  unfold GatherDims.start
  rw [dif_pos (show a ∈ (gather_S2x32x8x64x64_S2x32x32x64x64x4_S2x32x32x64x64x8_5_0134_n_n_0134_5_11811).startIndexMap from ha)]
  have hsi : (gather_S2x32x8x64x64_S2x32x32x64x64x4_S2x32x32x64x64x8_5_0134_n_n_0134_5_11811).siIdx (ix6 b t k y x ch)
      ⟨List.idxOf a (gather_S2x32x8x64x64_S2x32x32x64x64x4_S2x32x32x64x64x8_5_0134_n_n_0134_5_11811).startIndexMap,
        List.idxOf_lt_length_iff.2 ha⟩ = ix6 b t k y x n := by
    funext c; refine Fin.ext ?_
    match c with
    | ⟨0, _⟩ => rfl
    | ⟨1, _⟩ => rfl
    | ⟨2, _⟩ => rfl
    | ⟨3, _⟩ => rfl
    | ⟨4, _⟩ => rfl
    | ⟨5, _⟩ => exact hn
  rw [hsi]
  rfl

/-- On an axis that is looked up, the slice has one entry, so the slice's start is the entry's place. -/
theorem operand_mapped (idx : IVec S2x32x32x64x64x4 32) (b : Fin 2) (t k : Fin 32) (y x : Fin 64) (ch : Fin 8)
    (a : Fin 5) (n : Fin 4) (ha : a ∈ ([0, 1, 3, 4] : List (Fin 5))) (hn : ([0, 1, 3, 4] : List (Fin 5)).idxOf a = n.val) :
    ((gather_S2x32x8x64x64_S2x32x32x64x64x4_S2x32x32x64x64x8_5_0134_n_n_0134_5_11811).operandIdx (ix6 b t k y x ch) idx a).val
      = min (idx (ix6 b t k y x n)).toInt.toNat (S2x32x8x64x64.size a - (![1, 1, 8, 1, 1] : Fin 5 → ℕ) a) := by
  show GatherDims.start _ _ _ _ + GatherDims.batchCoord _ _ _ + GatherDims.offCoord _ _ _ = _
  rw [GatherDims.batchCoord_eq_zero _ _ _ (List.not_mem_nil), GatherDims.offCoord_eq_zero _ _ _
    (fun h => ((GatherDims.mem_sKept _ _).mp h).1 ha), start_eq idx b t k y x ch a n ha hn,
    Nat.add_zero]

/-- The slice takes every channel, so a result's channel is the entry's. -/
theorem operand_channel (idx : IVec S2x32x32x64x64x4 32) (b : Fin 2) (t k : Fin 32) (y x : Fin 64) (ch : Fin 8) :
    ((gather_S2x32x8x64x64_S2x32x32x64x64x4_S2x32x32x64x64x8_5_0134_n_n_0134_5_11811).operandIdx (ix6 b t k y x ch) idx 2).val
      = ch.val := by
  show GatherDims.start _ _ _ _ + GatherDims.batchCoord _ _ _ + GatherDims.offCoord _ _ _ = _
  rw [GatherDims.batchCoord_eq_zero _ _ _ (List.not_mem_nil)]
  unfold GatherDims.start GatherDims.offCoord
  have hn : (2 : Fin 5) ∉ ([0, 1, 3, 4] : List (Fin 5)) := by decide
  rw [dif_neg (show (2 : Fin 5) ∉ (gather_S2x32x8x64x64_S2x32x32x64x64x4_S2x32x32x64x64x8_5_0134_n_n_0134_5_11811).startIndexMap from hn),
    dif_pos ((GatherDims.mem_sKept (gather_S2x32x8x64x64_S2x32x32x64x64x4_S2x32x32x64x64x8_5_0134_n_n_0134_5_11811) 2).mpr ⟨hn, List.not_mem_nil⟩),
    Nat.zero_add]
  rfl

/-- The entry looked up: the batch's own, the earlier time's own, the channel's own, at the row and column given. -/
theorem looked_apply (x1 : (⟨S2x32x8x64x64, .f32⟩ : BufTy).Contents (Elt Ideal)) (row col : IGrid)
    (b : Fin 2) (t k : Fin 32) (y x : Fin 64) (ch : Fin 8) (r c : Fin 64)
    (hr : (row (ix5 b t k y x)).toInt = (r.val : ℤ)) (hc : (col (ix5 b t k y x)).toInt = (c.val : ℤ)) :
    looked x1 row col (ix6 b t k y x ch) = x1 (ix5 b k ch r c) := by
  unfold looked Host.gather
  refine congrArg x1 ?_
  have hbv : ∀ b : Fin 2, (BitVec.ofNat 32 b.val).toInt = (b.val : ℤ) := by decide
  have hkv : ∀ k : Fin 32, (BitVec.ofNat 32 k.val).toInt = (k.val : ℤ) := by decide
  have hB := b.isLt
  have hK := k.isLt
  have hR := r.isLt
  have hC := c.isLt
  funext a
  refine Fin.ext ?_
  match a with
  | ⟨0, _⟩ =>
    refine (operand_mapped _ b t k y x ch 0 0 (by decide) (by decide)).trans ?_
    rw [indices_apply]
    show min (batchNo (ix5 b t k y x)).toInt.toNat 1 = b.val
    rw [batchNo_apply, hbv]; omega
  | ⟨1, _⟩ =>
    refine (operand_mapped _ b t k y x ch 1 1 (by decide) (by decide)).trans ?_
    rw [indices_apply]
    show min (timeNo (ix5 b t k y x)).toInt.toNat 31 = k.val
    rw [timeNo_apply, hkv]; omega
  | ⟨2, _⟩ => exact operand_channel _ b t k y x ch
  | ⟨3, _⟩ =>
    refine (operand_mapped _ b t k y x ch 3 2 (by decide) (by decide)).trans ?_
    rw [indices_apply]
    show min (row (ix5 b t k y x)).toInt.toNat 63 = r.val
    rw [hr]; omega
  | ⟨4, _⟩ =>
    refine (operand_mapped _ b t k y x ch 4 3 (by decide) (by decide)).trans ?_
    rw [indices_apply]
    show min (col (ix5 b t k y x)).toInt.toNat 63 = c.val
    rw [hc]; omega

end Cert.Warp.Ref

end
-- ==== Proof.Reference.Consts.lean ====
module

public import proofs.«01_k».proof.Proof.Consts

/-!
Two more constants: the ones only the reference uses.
-/

@[expose] public section

noncomputable section

open Idealize.ShloMosaic

namespace Cert.Warp

/-- The pattern of 1/32. -/
theorem bits_inv32 : Ideal.ofBits .f32 0x3D000000#32 = ((1 / 32 : ℝ) : EReal) := by
  simp [Ideal.ofBits, Ideal.ieee, -EReal.coe_mul]; norm_num
/-- The pattern of 64. -/
theorem bits_64 : Ideal.ofBits .f32 0x42800000#32 = ((64 : ℝ) : EReal) := by
  simp [Ideal.ofBits, Ideal.ieee, -EReal.coe_mul]; norm_num

end Cert.Warp

end
-- ==== Proof.Reference.Corner.lean ====
module

public import proofs.«01_k».proof.Proof.Reference.Gather
public import proofs.«01_k».proof.Proof.Reference.Consts
public import Idealize.ShloMosaic.PureOps.Ideal.Laws

/-!
The reference's reading of one corner: the image entry at a whole column and row, zero where they lie outside the image.
-/

@[expose] public section

noncomputable section

open Cert.ReferenceIdeal Cert.ReferenceIdeal.Gen Idealize.ShloMosaic Idealize.ShloMosaic.ValueIdx

namespace Cert.Warp.Ref

/-- One number everywhere. -/
def const (w : BitVec 32) : Grid :=
  broadcastInDim S2x32x32x64x64 ![] bcast_S_S2x32x32x64x64 (constant (F := Ideal) S_ .f32 w)

/-- One whole number everywhere, as a float. -/
def constI (w : BitVec 32) : Grid :=
  broadcastInDim S2x32x32x64x64 ![] bcast_S_S2x32x32x64x64 (sitofp (F := Ideal) .f32 (constantI S_ 32 w))

/-- Whether the columns and rows lie in the image. -/
def inside (col row : Grid) : IVec S2x32x32x64x64 1 :=
  andi (andi (andi (cmpf (F := Ideal) .oge col (const 0x00000000#32)) (cmpf (F := Ideal) .olt col (const 0x42800000#32)))
    (cmpf (F := Ideal) .oge row (const 0x00000000#32))) (cmpf (F := Ideal) .olt row (const 0x42800000#32))

/-- Positions moved to the nearest in the image, as whole numbers. -/
def pinned (z : Grid) : IGrid :=
  fptosi (F := Ideal) (φ := .f32) 32 (minimumf (F := Ideal) (constI 63#32) (maximumf (F := Ideal) (constI 0#32) z))

/-- The image entries at columns and rows, zero outside. -/
def sampled (x1 : (⟨S2x32x8x64x64, .f32⟩ : BufTy).Contents (Elt Ideal)) (col row : Grid) :
    (⟨S2x32x32x64x64x8, .f32⟩ : BufTy).Contents (Elt Ideal) :=
  select (eightLast (inside col row)) (looked x1 (pinned row) (pinned col))
    (broadcastInDim S2x32x32x64x64x8 ![] bcast_S_S2x32x32x64x64x8 (constant (F := Ideal) S_ .f32 0x00000000#32))

/-- A comparison from below with zero. -/
theorem oge_zero (n : ℤ) : Ideal.cmp .oge ((n : ℝ) : EReal) (Ideal.ofBits .f32 0x00000000#32) = BitVec.ofBool (decide (0 ≤ n)) := by
  rw [bits_zero]
  unfold Ideal.cmp
  dsimp only
  congr 1
  rw [decide_eq_decide, EReal.coe_le_coe_iff]
  exact_mod_cast Iff.rfl

/-- A comparison from above with 64. -/
theorem olt_64 (n : ℤ) : Ideal.cmp .olt ((n : ℝ) : EReal) (Ideal.ofBits .f32 0x42800000#32) = BitVec.ofBool (decide (n < 64)) := by
  rw [bits_64]
  unfold Ideal.cmp
  dsimp only
  congr 1
  rw [decide_eq_decide, EReal.coe_lt_coe_iff]
  exact_mod_cast Iff.rfl

/-- The four comparisons together. -/
theorem inside_apply (col row : Grid) (j : S2x32x32x64x64.Idx) (n m : ℤ)
    (hn : col j = ((n : ℝ) : EReal)) (hm : row j = ((m : ℝ) : EReal)) :
    inside col row j = 1#1 ↔ (0 ≤ n ∧ n < 64) ∧ (0 ≤ m ∧ m < 64) := by
  have h : inside col row j
      = (((Ideal.cmp .oge (col j) (Ideal.ofBits .f32 0x00000000#32)) &&& (Ideal.cmp .olt (col j) (Ideal.ofBits .f32 0x42800000#32)))
        &&& (Ideal.cmp .oge (row j) (Ideal.ofBits .f32 0x00000000#32))) &&& (Ideal.cmp .olt (row j) (Ideal.ofBits .f32 0x42800000#32)) := rfl
  rw [h, hn, hm, oge_zero, oge_zero, olt_64, olt_64]
  by_cases h1 : 0 ≤ n <;> by_cases h2 : n < 64 <;> by_cases h3 : 0 ≤ m <;> by_cases h4 : m < 64 <;> simp [h1, h2, h3, h4]

/-- A whole position in the nearest place of the image. -/
def nearest (n : ℤ) : Fin 64 := ⟨(min 63 (max 0 n)).toNat, by omega⟩

/-- In the image the nearest place is the position itself. -/
theorem nearest_val (n : ℤ) (h : 0 ≤ n ∧ n < 64) : ((nearest n).val : ℤ) = n := by
  show (((min 63 (max 0 n)).toNat : ℕ) : ℤ) = n
  omega

/-- A pinned whole position is the nearest place's number. -/
theorem pinned_apply (z : Grid) (j : S2x32x32x64x64.Idx) (n : ℤ) (h : z j = ((n : ℝ) : EReal)) :
    (pinned z j).toInt = ((nearest n).val : ℤ) := by
  have h1 : pinned z j = Ideal.fptosi 32 (min (((63#32 : BitVec 32).toInt : ℝ) : EReal)
      (max (((0#32 : BitVec 32).toInt : ℝ) : EReal) (z j))) := rfl
  have h63 : (63#32 : BitVec 32).toInt = 63 := by decide
  have h0 : (0#32 : BitVec 32).toInt = 0 := by decide
  have hmm : min (((63 : ℤ) : ℝ) : EReal) (max (((0 : ℤ) : ℝ) : EReal) ((n : ℝ) : EReal))
      = (((min 63 (max 0 n) : ℤ) : ℝ) : EReal) := by
    rw [coe_max, ← EReal.coe_strictMono.monotone.map_min]
    push_cast
    rfl
  have hb : ((nearest n).val : ℤ) = min 63 (max 0 n) := by
    show (((min 63 (max 0 n)).toNat : ℕ) : ℤ) = _
    omega
  rw [h1, h, h63, h0, hmm, hb]
  unfold Ideal.fptosi
  rw [Ideal.toIntClamped_coe, Int.floor_intCast, Int.ceil_intCast, ite_self, BitVec.toInt_ofInt]
  norm_num
  rw [Int.bmod_eq_of_le] <;> omega

/-- One corner of the image of the earlier time, zero outside it. -/
theorem sampled_apply (x1 : (⟨S2x32x8x64x64, .f32⟩ : BufTy).Contents (Elt Ideal)) (col row : Grid)
    (b : Fin 2) (t k : Fin 32) (y x : Fin 64) (ch : Fin 8) (n m : ℤ)
    (hn : col (ix5 b t k y x) = ((n : ℝ) : EReal)) (hm : row (ix5 b t k y x) = ((m : ℝ) : EReal)) :
    sampled x1 col row (ix6 b t k y x ch) = corner (imageAt x1 b ch k.val) n m := by
  rw [corner_eq (imageAt x1 b ch k.val) n m (nearest m) (nearest n) (nearest_val m) (nearest_val n)]
  have h : sampled x1 col row (ix6 b t k y x ch)
      = if eightLast (inside col row) (ix6 b t k y x ch) = 1#1 then looked x1 (pinned row) (pinned col) (ix6 b t k y x ch)
        else Ideal.ofBits .f32 0x00000000#32 := rfl
  rw [h, eightLast_apply, bits_zero, EReal.coe_zero,
    looked_apply x1 (pinned row) (pinned col) b t k y x ch (nearest m) (nearest n) (pinned_apply row _ m hm) (pinned_apply col _ n hn)]
  refine if_congr (inside_apply col row _ n m hn hm) ?_ rfl
  unfold imageAt
  rw [time_val]

end Cert.Warp.Ref

end
-- ==== Proof.Reference.Wrap.lean ====
module

public import proofs.«01_k».proof.Proof.Reference.Consts
public import Idealize.ShloMosaic.PureOps.Ideal.Laws

/-!
The reference's remainder by two, on one number.
-/

@[expose] public section

noncomputable section

open Idealize.ShloMosaic

namespace Cert.Warp.Ref

/-- The remainder by two with the sign of two: the truncated one, two added where it is negative. -/
def mod2 (z : EReal) : EReal :=
  let two := Ideal.ofBits .f32 0x40000000#32
  let zero := Ideal.ofBits .f32 0x00000000#32
  let r := Ideal.remf z two
  Scalar.select (IntOp.andi (IntOp.cmpi .ne (Ideal.cmp .olt r zero) (Ideal.cmp .olt two zero)) (Ideal.cmp .une r zero))
    (r + two) r

/-- What is chosen, by the truncated remainder's sign. -/
theorem chosen (m : ℝ) :
    Scalar.select (IntOp.andi (IntOp.cmpi .ne (Ideal.cmp .olt (m : EReal) ((0 : ℝ) : EReal)) (Ideal.cmp .olt ((2 : ℝ) : EReal) ((0 : ℝ) : EReal)))
        (Ideal.cmp .une (m : EReal) ((0 : ℝ) : EReal))) ((m : EReal) + ((2 : ℝ) : EReal)) (m : EReal)
      = ((if m < 0 then m + 2 else m : ℝ) : EReal) := by
  have h20 : ¬ ((2 : ℝ) : EReal) < ((0 : ℝ) : EReal) := by
    rw [EReal.coe_lt_coe_iff]; norm_num
  unfold Scalar.select IntOp.andi IntOp.cmpi Ideal.cmp
  dsimp only
  rw [decide_eq_false h20]
  by_cases hm : m < 0
  · have h1 : (m : EReal) < ((0 : ℝ) : EReal) := EReal.coe_lt_coe_iff.mpr hm
    have h2 : (m : EReal) ≠ ((0 : ℝ) : EReal) := h1.ne
    rw [decide_eq_true h1, decide_eq_true h2, if_pos (by decide), if_pos hm, EReal.coe_add]
  · have h1 : ¬ (m : EReal) < ((0 : ℝ) : EReal) := fun h => hm (EReal.coe_lt_coe_iff.mp h)
    rw [decide_eq_false h1, if_neg hm, if_neg]
    cases decide ((m : EReal) ≠ ((0 : ℝ) : EReal)) <;> decide

/-- On a real it is the distance to the even number below. -/
theorem mod2_coe (r : ℝ) : mod2 (r : EReal) = ((r - 2 * (⌊r * (1 / 2)⌋ : ℝ) : ℝ) : EReal) := by
  unfold mod2
  dsimp only
  rw [bits_two, bits_zero, Ideal.remf_coe, if_neg (by norm_num), chosen]
  refine congrArg _ ?_
  have hh : r / 2 = r * (1 / 2) := by ring
  rw [hh]
  generalize hs : r * (1 / 2) = s
  have hr : r = 2 * s := by linarith
  rw [hr]
  unfold Ideal.truncInt
  by_cases h0 : 0 ≤ s
  · rw [if_pos h0, if_neg]
    have := Int.floor_le s
    linarith
  · rw [if_neg h0]
    by_cases hlt : 2 * s - 2 * ((⌈s⌉ : ℤ) : ℝ) < 0
    · rw [if_pos hlt]
      have hfl : ⌊s⌋ = ⌈s⌉ - 1 := by
        rw [Int.floor_eq_iff]
        have := Int.ceil_lt_add_one s
        push_cast
        constructor <;> linarith
      rw [hfl]
      push_cast
      ring
    · rw [if_neg hlt]
      have hle := Int.le_ceil s
      have he : s = ((⌈s⌉ : ℤ) : ℝ) := by linarith
      have hfl : ⌊s⌋ = ⌈s⌉ := by
        rw [Int.floor_eq_iff]
        constructor <;> linarith
      rw [hfl]

end Cert.Warp.Ref

end
-- ==== Proof.Reference.Position.lean ====
module

public import proofs.«01_k».proof.Proof.Reference.Sums
public import proofs.«01_k».proof.Proof.Reference.Corner
public import proofs.«01_k».proof.Proof.Reference.Wrap

/-!
Where the reference samples: the column and row of every pixel drifted from an earlier time to a later one.
-/

@[expose] public section

noncomputable section

open Cert.ReferenceIdeal Cert.ReferenceIdeal.Gen Idealize.ShloMosaic Idealize.ShloMosaic.ValueIdx

namespace Cert.Warp.Ref

/-- The centres of 64 pixels. -/
def centres : FVec Ideal S64 .f32 :=
  subf (F := Ideal) (mulf (F := Ideal) (addf (F := Ideal) (sitofp (F := Ideal) .f32 (iotaInDim S64 32 0))
    (broadcastInDim S64 ![] bcast_S_S64 (constant (F := Ideal) S_ .f32 0x3F000000#32)))
    (broadcastInDim S64 ![] bcast_S_S64 (constant (F := Ideal) S_ .f32 0x3D000000#32)))
    (broadcastInDim S64 ![] bcast_S_S64 (constant (F := Ideal) S_ .f32 0x3F800000#32))

/-- The centre of pixel `j`. -/
theorem centres_apply (j : Fin 64) : centres (ix1 j) = ((pix0 j.val : ℝ) : EReal) := by
  have h : centres (ix1 j) = ((((BitVec.ofNat 32 j.val).toInt : ℝ) : EReal) + Ideal.ofBits .f32 0x3F000000#32)
      * Ideal.ofBits .f32 0x3D000000#32 - Ideal.ofBits .f32 0x3F800000#32 := rfl
  have hj : ∀ j : Fin 64, (BitVec.ofNat 32 j.val).toInt = (j.val : ℤ) := by decide
  rw [h, hj, bits_half, bits_inv32, bits_one, ← EReal.coe_add, ← EReal.coe_mul, ← EReal.coe_sub]
  refine congrArg _ ?_
  unfold pix0
  push_cast
  ring

/-- The columns' centres everywhere. -/
def columnCentres : Grid :=
  broadcastInDim S2x32x32x64x64 ![0, 1, 2, 3, 4] bcast_S1x1x1x1x64_S2x32x32x64x64_0_1_2_3_4
    (broadcastInDim S1x1x1x1x64 ![3, 4] bcast_S1x64_S1x1x1x1x64_3_4 (broadcastInDim S1x64 ![1] bcast_S64_S1x64_1 centres))

/-- The rows' centres everywhere. -/
def rowCentres : Grid :=
  broadcastInDim S2x32x32x64x64 ![0, 1, 2, 3, 4] bcast_S1x1x1x64x1_S2x32x32x64x64_0_1_2_3_4
    (broadcastInDim S1x1x1x64x1 ![3, 4] bcast_S64x1_S1x1x1x64x1_3_4 (broadcastInDim S64x1 ![0] bcast_S64_S64x1_0 centres))

/-- A column's centre. -/
theorem columnCentres_apply (b : Fin 2) (t k : Fin 32) (y x : Fin 64) :
    columnCentres (ix5 b t k y x) = ((pix0 x.val : ℝ) : EReal) :=
  (broadcastInDim_apply _ _ _ _ (ix5 (0 : Fin 1) (0 : Fin 1) (0 : Fin 1) (0 : Fin 1) x) (fun a => match a with
    | ⟨0, _⟩ => rfl | ⟨1, _⟩ => rfl | ⟨2, _⟩ => rfl | ⟨3, _⟩ => rfl | ⟨4, _⟩ => rfl)).trans <|
  (broadcastInDim_apply _ _ _ _ (ix2 (0 : Fin 1) x) (fun a => match a with | ⟨0, _⟩ => rfl | ⟨1, _⟩ => rfl)).trans <|
  (broadcastInDim_apply _ _ _ _ (ix1 x) (fun a => match a with | ⟨0, _⟩ => rfl)).trans (centres_apply x)

/-- A row's centre. -/
theorem rowCentres_apply (b : Fin 2) (t k : Fin 32) (y x : Fin 64) :
    rowCentres (ix5 b t k y x) = ((pix0 y.val : ℝ) : EReal) :=
  (broadcastInDim_apply _ _ _ _ (ix5 (0 : Fin 1) (0 : Fin 1) (0 : Fin 1) y (0 : Fin 1)) (fun a => match a with
    | ⟨0, _⟩ => rfl | ⟨1, _⟩ => rfl | ⟨2, _⟩ => rfl | ⟨3, _⟩ => rfl | ⟨4, _⟩ => rfl)).trans <|
  (broadcastInDim_apply _ _ _ _ (ix2 y (0 : Fin 1)) (fun a => match a with | ⟨0, _⟩ => rfl | ⟨1, _⟩ => rfl)).trans <|
  (broadcastInDim_apply _ _ _ _ (ix1 y) (fun a => match a with | ⟨0, _⟩ => rfl)).trans (centres_apply y)

/-- The drifts from every time to every time: differences of running sums. -/
def gaps (s : FVec Ideal S2x32x2x64x64 .f32) : FVec Ideal S2x32x32x2x64x64 .f32 :=
  subf (F := Ideal)
    (broadcastInDim S2x32x32x2x64x64 ![0, 1, 2, 3, 4, 5] bcast_S2x32x1x2x64x64_S2x32x32x2x64x64_0_1_2_3_4_5
      (broadcastInDim S2x32x1x2x64x64 ![0, 1, 3, 4, 5] bcast_S2x32x2x64x64_S2x32x1x2x64x64_0_1_3_4_5 s))
    (broadcastInDim S2x32x32x2x64x64 ![0, 1, 2, 3, 4, 5] bcast_S2x1x32x2x64x64_S2x32x32x2x64x64_0_1_2_3_4_5
      (broadcastInDim S2x1x32x2x64x64 ![0, 2, 3, 4, 5] bcast_S2x32x2x64x64_S2x1x32x2x64x64_0_2_3_4_5 s))

/-- The drift is the later running sum less the earlier one. -/
theorem gaps_apply (s : FVec Ideal S2x32x2x64x64 .f32) (b : Fin 2) (t k : Fin 32) (a : Fin 2) (y x : Fin 64) :
    gaps s (ix6 b t k a y x) = s (ix5 b t a y x) - s (ix5 b k a y x) := by
  have h1 : broadcastInDim S2x32x32x2x64x64 ![0, 1, 2, 3, 4, 5] bcast_S2x32x1x2x64x64_S2x32x32x2x64x64_0_1_2_3_4_5
      (broadcastInDim S2x32x1x2x64x64 ![0, 1, 3, 4, 5] bcast_S2x32x2x64x64_S2x32x1x2x64x64_0_1_3_4_5 s) (ix6 b t k a y x)
      = s (ix5 b t a y x) :=
    (broadcastInDim_apply _ _ _ _ (ix6 b t (0 : Fin 1) a y x) (fun a => match a with
      | ⟨0, _⟩ => rfl | ⟨1, _⟩ => rfl | ⟨2, _⟩ => rfl | ⟨3, _⟩ => rfl | ⟨4, _⟩ => rfl | ⟨5, _⟩ => rfl)).trans
    (broadcastInDim_apply _ _ _ _ (ix5 b t a y x) (fun a => match a with
      | ⟨0, _⟩ => rfl | ⟨1, _⟩ => rfl | ⟨2, _⟩ => rfl | ⟨3, _⟩ => rfl | ⟨4, _⟩ => rfl))
  have h2 : broadcastInDim S2x32x32x2x64x64 ![0, 1, 2, 3, 4, 5] bcast_S2x1x32x2x64x64_S2x32x32x2x64x64_0_1_2_3_4_5
      (broadcastInDim S2x1x32x2x64x64 ![0, 2, 3, 4, 5] bcast_S2x32x2x64x64_S2x1x32x2x64x64_0_2_3_4_5 s) (ix6 b t k a y x)
      = s (ix5 b k a y x) :=
    (broadcastInDim_apply _ _ _ _ (ix6 b (0 : Fin 1) k a y x) (fun a => match a with
      | ⟨0, _⟩ => rfl | ⟨1, _⟩ => rfl | ⟨2, _⟩ => rfl | ⟨3, _⟩ => rfl | ⟨4, _⟩ => rfl | ⟨5, _⟩ => rfl)).trans
    (broadcastInDim_apply _ _ _ _ (ix5 b k a y x) (fun a => match a with
      | ⟨0, _⟩ => rfl | ⟨1, _⟩ => rfl | ⟨2, _⟩ => rfl | ⟨3, _⟩ => rfl | ⟨4, _⟩ => rfl))
  unfold gaps
  rw [subf_apply, h1, h2]

/-- The columns' drifts. -/
def gapX (g : FVec Ideal S2x32x32x2x64x64 .f32) : Grid :=
  shapeCast _ (extractStridedSlice S2x32x32x1x64x64 ![0, 0, 0, 0, 0, 0] g slices_S2x32x32x2x64x64_S2x32x32x1x64x64_0_0_0_0_0_0)
    shapeCasts_S2x32x32x1x64x64_S2x32x32x64x64

/-- The rows' drifts. -/
def gapY (g : FVec Ideal S2x32x32x2x64x64 .f32) : Grid :=
  shapeCast _ (extractStridedSlice S2x32x32x1x64x64 ![0, 0, 0, 1, 0, 0] g slices_S2x32x32x2x64x64_S2x32x32x1x64x64_0_0_0_1_0_0)
    shapeCasts_S2x32x32x1x64x64_S2x32x32x64x64

/-- Dropping the axis of one component keeps the other coordinates. -/
theorem dropped (v : S2x32x32x1x64x64.Idx → EReal) (b : Fin 2) (t k : Fin 32) (y x : Fin 64) :
    shapeCast S2x32x32x64x64 v shapeCasts_S2x32x32x1x64x64_S2x32x32x64x64 (ix5 b t k y x) = v (ix6 b t k (0 : Fin 1) y x) := by
  refine shapeCast_apply _ _ _ _ ?_
  rw [Shape.rowMajor_val_six, Shape.rowMajor_val_five]
  show ((((b.val * 32 + t.val) * 32 + k.val) * 1 + 0) * 64 + y.val) * 64 + x.val
    = (((b.val * 32 + t.val) * 32 + k.val) * 64 + y.val) * 64 + x.val
  omega

/-- A column's drift is component 0. -/
theorem gapX_apply (g : FVec Ideal S2x32x32x2x64x64 .f32) (b : Fin 2) (t k : Fin 32) (y x : Fin 64) :
    gapX g (ix5 b t k y x) = g (ix6 b t k (0 : Fin 2) y x) :=
  (dropped _ b t k y x).trans (extractStridedSlice_apply _ _ _ _ _ (fun a => match a with
    | ⟨0, _⟩ => (Nat.zero_add _).symm | ⟨1, _⟩ => (Nat.zero_add _).symm | ⟨2, _⟩ => (Nat.zero_add _).symm | ⟨3, _⟩ => rfl
    | ⟨4, _⟩ => (Nat.zero_add _).symm | ⟨5, _⟩ => (Nat.zero_add _).symm))

/-- A row's drift is component 1. -/
theorem gapY_apply (g : FVec Ideal S2x32x32x2x64x64 .f32) (b : Fin 2) (t k : Fin 32) (y x : Fin 64) :
    gapY g (ix5 b t k y x) = g (ix6 b t k (1 : Fin 2) y x) :=
  (dropped _ b t k y x).trans (extractStridedSlice_apply _ _ _ _ _ (fun a => match a with
    | ⟨0, _⟩ => (Nat.zero_add _).symm | ⟨1, _⟩ => (Nat.zero_add _).symm | ⟨2, _⟩ => (Nat.zero_add _).symm | ⟨3, _⟩ => rfl
    | ⟨4, _⟩ => (Nat.zero_add _).symm | ⟨5, _⟩ => (Nat.zero_add _).symm))

/-- The remainder by two, everywhere. -/
def mod2s (z : Grid) : Grid :=
  select
    (andi
      (cmpi .ne (cmpf (F := Ideal) .olt (Host.remf (F := Ideal) z (const 0x40000000#32)) (const 0x00000000#32))
        (broadcastInDim S2x32x32x64x64 ![] bcast_S_S2x32x32x64x64
          (cmpf (F := Ideal) .olt (constant (F := Ideal) S_ .f32 0x40000000#32) (constant (F := Ideal) S_ .f32 0x00000000#32))))
      (cmpf (F := Ideal) .une (Host.remf (F := Ideal) z (const 0x40000000#32)) (const 0x00000000#32)))
    (addf (F := Ideal) (Host.remf (F := Ideal) z (const 0x40000000#32)) (const 0x40000000#32))
    (Host.remf (F := Ideal) z (const 0x40000000#32))

/-- A position on the axis from -1 to 1 in pixel units. -/
def pixels (z : Grid) : Grid :=
  mulf (F := Ideal) (subf (F := Ideal) (mulf (F := Ideal) (addf (F := Ideal) z (const 0x3F800000#32)) (const 0x42800000#32))
    (const 0x3F800000#32)) (const 0x3F000000#32)

/-- The columns sampled. -/
def cols (x0 : FVec Ideal S2x32x2x64x64 .f32) : Grid :=
  pixels (subf (F := Ideal) (mod2s (addf (F := Ideal) (addf (F := Ideal) columnCentres (gapX (gaps (sums x0)))) (const 0x3F800000#32)))
    (const 0x3F800000#32))

/-- The rows sampled. -/
def rows (x0 : FVec Ideal S2x32x2x64x64 .f32) : Grid :=
  pixels (addf (F := Ideal) rowCentres (gapY (gaps (sums x0))))

/-- A position in pixel units. -/
theorem pixels_apply (z : Grid) (j : S2x32x32x64x64.Idx) (r : ℝ) (h : z j = (r : EReal)) :
    pixels z j = (((r + 1) * 32 - 1 / 2 : ℝ) : EReal) := by
  have h1 : pixels z j = ((z j + Ideal.ofBits .f32 0x3F800000#32) * Ideal.ofBits .f32 0x42800000#32
      - Ideal.ofBits .f32 0x3F800000#32) * Ideal.ofBits .f32 0x3F000000#32 := rfl
  rw [h1, h, bits_one, bits_64, bits_half, ← EReal.coe_add, ← EReal.coe_mul, ← EReal.coe_sub, ← EReal.coe_mul]
  refine congrArg _ ?_
  ring

/-- The drift of component `a` from time `k` to time `t`, whichever comes first. -/
def gap (f : ℕ → ℝ) (k t : ℕ) : ℝ := (∑ j ∈ Finset.range (t + 1), f j) - ∑ j ∈ Finset.range (k + 1), f j

/-- The drifts are differences of real sums. -/
theorem gaps_coe (x0 : FVec Ideal S2x32x2x64x64 .f32) (hf : Finite x0) (b : Fin 2) (t k : Fin 32) (a : Fin 2) (y x : Fin 64) :
    gaps (sums x0) (ix6 b t k a y x) = ((gap (flowAt x0 b a y x) k.val t.val : ℝ) : EReal) := by
  rw [gaps_apply, sums_apply x0 hf, sums_apply x0 hf, ← EReal.coe_sub]
  rfl

/-- The remainder by two at an index. -/
theorem mod2s_apply (z : Grid) (j : S2x32x32x64x64.Idx) : mod2s z j = mod2 (z j) := rfl

/-- A number everywhere at an index. -/
theorem const_apply (w : BitVec 32) (j : S2x32x32x64x64.Idx) : const w j = Ideal.ofBits .f32 w := rfl

/-- A column drifted by a real, in pixel units. -/
theorem col_of (c d : Grid) (j : S2x32x32x64x64.Idx) (n : ℕ) (D : ℝ) (hc : c j = ((pix0 n : ℝ) : EReal)) (hd : d j = (D : EReal)) :
    pixels (subf (F := Ideal) (φ := .f32) (mod2s (addf (F := Ideal) (φ := .f32) (addf (F := Ideal) (φ := .f32) c d) (const 0x3F800000#32)))
      (const 0x3F800000#32)) j = ((colOf n D : ℝ) : EReal) := by
  have h : subf (F := Ideal) (φ := .f32) (mod2s (addf (F := Ideal) (φ := .f32) (addf (F := Ideal) (φ := .f32) c d) (const 0x3F800000#32)))
      (const 0x3F800000#32) j = (((pix0 n + D + 1) - 2 * (⌊(pix0 n + D + 1) * (1 / 2)⌋ : ℝ) - 1 : ℝ) : EReal) := by
    rw [subf_apply, mod2s_apply, addf_apply, addf_apply, const_apply, hc, hd, bits_one, ← EReal.coe_add, ← EReal.coe_add, mod2_coe,
      ← EReal.coe_sub]
  rw [pixels_apply _ _ _ h]
  refine congrArg _ ?_
  unfold colOf
  ring

/-- A row drifted by a real, in pixel units. -/
theorem row_of (c d : Grid) (j : S2x32x32x64x64.Idx) (n : ℕ) (D : ℝ) (hc : c j = ((pix0 n : ℝ) : EReal)) (hd : d j = (D : EReal)) :
    pixels (addf (F := Ideal) (φ := .f32) c d) j = ((rowOf n D : ℝ) : EReal) := by
  have h : addf (F := Ideal) (φ := .f32) c d j = ((pix0 n + D : ℝ) : EReal) := by
    rw [addf_apply, hc, hd, ← EReal.coe_add]
  rw [pixels_apply _ _ _ h]
  unfold rowOf
  rfl

/-- The column sampled. -/
theorem cols_apply (x0 : FVec Ideal S2x32x2x64x64 .f32) (hf : Finite x0) (b : Fin 2) (t k : Fin 32) (y x : Fin 64) :
    cols x0 (ix5 b t k y x) = ((colOf x.val (gap (flowAt x0 b 0 y x) k.val t.val) : ℝ) : EReal) := by
  unfold cols
  exact col_of _ _ _ _ _ (columnCentres_apply b t k y x) ((gapX_apply _ b t k y x).trans (gaps_coe x0 hf b t k 0 y x))

/-- The row sampled. -/
theorem rows_apply (x0 : FVec Ideal S2x32x2x64x64 .f32) (hf : Finite x0) (b : Fin 2) (t k : Fin 32) (y x : Fin 64) :
    rows x0 (ix5 b t k y x) = ((rowOf y.val (gap (flowAt x0 b 1 y x) k.val t.val) : ℝ) : EReal) := by
  unfold rows
  exact row_of _ _ _ _ _ (rowCentres_apply b t k y x) ((gapY_apply _ b t k y x).trans (gaps_coe x0 hf b t k 1 y x))

end Cert.Warp.Ref

end
-- ==== Proof.Reference.Blend.lean ====
module

public import proofs.«01_k».proof.Proof.Reference.Position

/-!
The reference's interpolation: the four corners around the sampled position, weighted and added.
-/

@[expose] public section

noncomputable section

open Cert.ReferenceIdeal Cert.ReferenceIdeal.Gen Idealize.ShloMosaic Idealize.ShloMosaic.ValueIdx

namespace Cert.Warp.Ref

/-- The whole part of a position. -/
def whole (z : Grid) : Grid := Host.floor (F := Ideal) (φ := .f32) z

/-- The place after it. -/
def next (z : Grid) : Grid := addf (F := Ideal) (φ := .f32) (whole z) (const 0x3F800000#32)

/-- The fraction of a position. -/
def part (z : Grid) : Grid := subf (F := Ideal) (φ := .f32) z (whole z)

/-- What the fraction leaves of one. -/
def rest (z : Grid) : Grid := subf (F := Ideal) (φ := .f32) (const 0x3F800000#32) (part z)

/-- One value per batch, time, earlier time, row, column and channel. -/
abbrev Grid8 : Type := FVec Ideal S2x32x32x64x64x8 .f32

/-- A corner times its weight. -/
def share (x1 : (⟨S2x32x8x64x64, .f32⟩ : BufTy).Contents (Elt Ideal)) (col row u v : Grid) : Grid8 :=
  mulf (F := Ideal) (φ := .f32) (sampled x1 col row) (eightLast (mulf (F := Ideal) (φ := .f32) u v))

/-- The four corners weighted and added. -/
def blend (x1 : (⟨S2x32x8x64x64, .f32⟩ : BufTy).Contents (Elt Ideal)) (c r : Grid) : Grid8 :=
  addf (F := Ideal) (φ := .f32) (addf (F := Ideal) (φ := .f32) (addf (F := Ideal) (φ := .f32)
    (share x1 (whole c) (whole r) (rest c) (rest r))
    (share x1 (next c) (whole r) (part c) (rest r)))
    (share x1 (whole c) (next r) (rest c) (part r)))
    (share x1 (next c) (next r) (part c) (part r))

/-- The whole part of a real. -/
theorem whole_apply (z : Grid) (j : S2x32x32x64x64.Idx) (u : ℝ) (h : z j = (u : EReal)) : whole z j = (((⌊u⌋ : ℤ) : ℝ) : EReal) := by
  have h1 : whole z j = Ideal.liftRound Int.floor (z j) := rfl
  rw [h1, h, Ideal.liftRound_coe]

/-- The place after the whole part of a real. -/
theorem next_apply (z : Grid) (j : S2x32x32x64x64.Idx) (u : ℝ) (h : z j = (u : EReal)) :
    next z j = (((⌊u⌋ + 1 : ℤ) : ℝ) : EReal) := by
  unfold next
  rw [addf_apply, whole_apply z j u h, const_apply, bits_one, ← EReal.coe_add]
  push_cast
  rfl

/-- The fraction of a real. -/
theorem part_apply (z : Grid) (j : S2x32x32x64x64.Idx) (u : ℝ) (h : z j = (u : EReal)) : part z j = ((u - ⌊u⌋ : ℝ) : EReal) := by
  unfold part
  rw [subf_apply, whole_apply z j u h, h, ← EReal.coe_sub]

/-- One less the fraction of a real. -/
theorem rest_apply (z : Grid) (j : S2x32x32x64x64.Idx) (u : ℝ) (h : z j = (u : EReal)) :
    rest z j = ((1 - (u - ⌊u⌋) : ℝ) : EReal) := by
  unfold rest
  rw [subf_apply, part_apply z j u h, const_apply, bits_one, ← EReal.coe_sub]

/-- A corner times its weight, at an index. -/
theorem share_apply (x1 : (⟨S2x32x8x64x64, .f32⟩ : BufTy).Contents (Elt Ideal)) (col row u v : Grid)
    (b : Fin 2) (t k : Fin 32) (y x : Fin 64) (ch : Fin 8) (n m : ℤ) (p q : ℝ)
    (hn : col (ix5 b t k y x) = ((n : ℝ) : EReal)) (hm : row (ix5 b t k y x) = ((m : ℝ) : EReal))
    (hp : u (ix5 b t k y x) = (p : EReal)) (hq : v (ix5 b t k y x) = (q : EReal)) :
    share x1 col row u v (ix6 b t k y x ch) = corner (imageAt x1 b ch k.val) n m * ((p * q : ℝ) : EReal) := by
  unfold share
  rw [mulf_apply, sampled_apply x1 col row b t k y x ch n m hn hm, eightLast_apply, mulf_apply, hp, hq, ← EReal.coe_mul]

/-- The four corners make one sample by hat weights. -/
theorem blend_apply (x1 : (⟨S2x32x8x64x64, .f32⟩ : BufTy).Contents (Elt Ideal)) (c r : Grid)
    (b : Fin 2) (t k : Fin 32) (y x : Fin 64) (ch : Fin 8) (u v : ℝ)
    (hc : c (ix5 b t k y x) = (u : EReal)) (hr : r (ix5 b t k y x) = (v : EReal)) :
    blend x1 c r (ix6 b t k y x ch) = tap (imageAt x1 b ch k.val) u v := by
  unfold blend
  rw [addf_apply, addf_apply, addf_apply, tap_corners,
    share_apply x1 _ _ _ _ b t k y x ch _ _ _ _ (whole_apply c _ u hc) (whole_apply r _ v hr) (rest_apply c _ u hc) (rest_apply r _ v hr),
    share_apply x1 _ _ _ _ b t k y x ch _ _ _ _ (next_apply c _ u hc) (whole_apply r _ v hr) (part_apply c _ u hc) (rest_apply r _ v hr),
    share_apply x1 _ _ _ _ b t k y x ch _ _ _ _ (whole_apply c _ u hc) (next_apply r _ v hr) (rest_apply c _ u hc) (part_apply r _ v hr),
    share_apply x1 _ _ _ _ b t k y x ch _ _ _ _ (next_apply c _ u hc) (next_apply r _ v hr) (part_apply c _ u hc) (part_apply r _ v hr)]

end Cert.Warp.Ref

end
-- ==== Proof.Reference.Stages.lean ====
module

public import proofs.«01_k».proof.Proof.Gen.ReferenceIdeal.Read
public import proofs.«01_k».proof.Proof.Reference.Blend

/-!
The reference's operations in the words of the modules before: positions, then each corner's share, then their sum.
-/

@[expose] public section

noncomputable section

open Cert.ReferenceIdeal Cert.ReferenceIdeal.Gen Cert.ReferenceIdeal.Read Idealize.ShloMosaic Idealize.ShloMosaic.ValueIdx

namespace Cert.Warp.Ref

variable (x0 : (⟨S2x32x2x64x64, .f32⟩ : BufTy).Contents (Elt Ideal)) (x1 : (⟨S2x32x8x64x64, .f32⟩ : BufTy).Contents (Elt Ideal))

/-- The running sums. -/
theorem v0_eq : val_main_v0 (F := Ideal) x0 = sums x0 := rfl

/-- The drifts. -/
theorem v21_eq : val_main_v21 (F := Ideal) x0 = gaps (sums x0) := rfl

/-- The columns' drifted positions. -/
theorem v26_eq : val_main_v26 (F := Ideal) x0 = addf (F := Ideal) (φ := .f32) columnCentres (gapX (gaps (sums x0))) := rfl

/-- The rows' drifted positions. -/
theorem v31_eq : val_main_v31 (F := Ideal) x0 = addf (F := Ideal) (φ := .f32) rowCentres (gapY (gaps (sums x0))) := rfl

/-- The remainder by two. -/
theorem v34_eq : val_main_v34 (F := Ideal) x0 = mod2s (val_main_v33 (F := Ideal) x0) := rfl

/-- The columns sampled. -/
theorem v44_eq : val_main_v44 (F := Ideal) x0 = cols x0 := by
  have h : val_main_v44 (F := Ideal) x0
      = pixels (subf (F := Ideal) (φ := .f32) (val_main_v34 (F := Ideal) x0) (const 0x3F800000#32)) := rfl
  have h33 : val_main_v33 (F := Ideal) x0 = addf (F := Ideal) (φ := .f32) (val_main_v26 (F := Ideal) x0) (const 0x3F800000#32) := rfl
  rw [h, v34_eq, h33, v26_eq]
  rfl

/-- The rows sampled. -/
theorem v52_eq : val_main_v52 (F := Ideal) x0 = rows x0 := by
  have h : val_main_v52 (F := Ideal) x0 = pixels (val_main_v31 (F := Ideal) x0) := rfl
  rw [h, v31_eq]
  rfl

/-- The first corner's share. -/
theorem v93_eq : val_main_v93 (F := Ideal) x0 x1
    = share x1 (whole (val_main_v44 (F := Ideal) x0)) (whole (val_main_v52 (F := Ideal) x0))
        (rest (val_main_v44 (F := Ideal) x0)) (rest (val_main_v52 (F := Ideal) x0)) := rfl

/-- The second corner's share. -/
theorem v124_eq : val_main_v124 (F := Ideal) x0 x1
    = share x1 (next (val_main_v44 (F := Ideal) x0)) (whole (val_main_v52 (F := Ideal) x0))
        (part (val_main_v44 (F := Ideal) x0)) (rest (val_main_v52 (F := Ideal) x0)) := rfl

/-- The third corner's share. -/
theorem v156_eq : val_main_v156 (F := Ideal) x0 x1
    = share x1 (whole (val_main_v44 (F := Ideal) x0)) (next (val_main_v52 (F := Ideal) x0))
        (rest (val_main_v44 (F := Ideal) x0)) (part (val_main_v52 (F := Ideal) x0)) := rfl

/-- The fourth corner's share. -/
theorem v190_eq : val_main_v190 (F := Ideal) x0 x1
    = share x1 (next (val_main_v44 (F := Ideal) x0)) (next (val_main_v52 (F := Ideal) x0))
        (part (val_main_v44 (F := Ideal) x0)) (part (val_main_v52 (F := Ideal) x0)) := rfl

/-- The four shares added. -/
theorem v191_eq : val_main_v191 (F := Ideal) x0 x1 = blend x1 (cols x0) (rows x0) := by
  have h : val_main_v191 (F := Ideal) x0 x1
      = addf (F := Ideal) (φ := .f32) (addf (F := Ideal) (φ := .f32) (addf (F := Ideal) (φ := .f32)
          (val_main_v93 (F := Ideal) x0 x1) (val_main_v124 (F := Ideal) x0 x1)) (val_main_v156 (F := Ideal) x0 x1))
          (val_main_v190 (F := Ideal) x0 x1) := rfl
  rw [h, v93_eq, v124_eq, v156_eq, v190_eq, v44_eq, v52_eq]
  rfl

end Cert.Warp.Ref

end
-- ==== Proof.Reference.Result.lean ====
module

public import proofs.«01_k».proof.Proof.Reference.Stages

/-!
The reference's result: at every index the target.
-/

@[expose] public section

noncomputable section

open Cert.ReferenceIdeal Cert.ReferenceIdeal.Gen Cert.ReferenceIdeal.Read Idealize.ShloMosaic Idealize.ShloMosaic.ValueIdx

namespace Cert.Warp.Ref

variable (x0 : (⟨S2x32x2x64x64, .f32⟩ : BufTy).Contents (Elt Ideal)) (x1 : (⟨S2x32x8x64x64, .f32⟩ : BufTy).Contents (Elt Ideal))

/-- The sample of the image of time `k` for the pixel's drift from time `k` to time `t`. -/
def sample (b : Fin 2) (t : ℕ) (ch : Fin 8) (y x : Fin 64) (k : ℕ) : EReal :=
  tap (imageAt x1 b ch k) (colOf x.val (gap (flowAt x0 b 0 y x) k t)) (rowOf y.val (gap (flowAt x0 b 1 y x) k t))

/-- Which times count: those up to the result's. -/
theorem counts (b : Fin 2) (t k : Fin 32) (y x : Fin 64) (ch : Fin 8) :
    val_main_call14_v1 (F := Ideal) (ix6 b t k y x ch) = 1#1 ↔ k.val ≤ t.val := by
  rw [val_main_call14_v1_apply, val_main_v198_apply, val_main_v197_apply, val_main_v195_apply, val_main_v196_apply,
    val_main_v193_apply, val_main_v194_apply]
  show IntOp.cmpi .sle (BitVec.ofNat 32 k.val) (BitVec.ofNat 32 t.val) = 1#1 ↔ _
  have h : ∀ k t : Fin 32, IntOp.cmpi .sle (BitVec.ofNat 32 k.val) (BitVec.ofNat 32 t.val) = 1#1 ↔ k.val ≤ t.val := by
    decide +kernel
  exact h k t

/-- A term of the sum over the times: the sample, or zero after the result's time. -/
theorem term_apply (hf : Finite x0) (b : Fin 2) (t k : Fin 32) (y x : Fin 64) (ch : Fin 8) :
    val_main_v199 (F := Ideal) x0 x1 (ix6 b t k y x ch) = if k.val ≤ t.val then sample x0 x1 b t.val ch y x k.val else 0 := by
  rw [val_main_v199_apply, v191_eq, blend_apply x1 _ _ b t k y x ch _ _ (cols_apply x0 hf b t k y x) (rows_apply x0 hf b t k y x),
    val_main_call14_v2_apply, val_main_call14_v0_apply, val_main_cst_57_apply, Ideal.ofBits_def, bits_zero, EReal.coe_zero]
  exact if_congr (counts b t k y x ch) rfl rfl

/-- The sum over the times up to `t`, zeros after. -/
theorem sum_upto (T : ℕ → EReal) (t : Fin 32) :
    ∑ k : Fin 32, (if k.val ≤ t.val then T k.val else 0) = T t.val + ∑ k ∈ Finset.range t.val, T k := by
  have ht := t.isLt
  rw [Fin.sum_univ_eq_sum_range (fun k => if k ≤ t.val then T k else 0) 32, add_comm, ← Finset.sum_range_succ]
  rw [← Finset.sum_subset (Finset.range_subset_range.mpr (show t.val + 1 ≤ 32 by omega))
    (f := fun k => if k ≤ t.val then T k else 0)]
  · refine Finset.sum_congr rfl fun k hk => ?_
    rw [Finset.mem_range] at hk
    rw [if_pos (by omega)]
  · intro k _ hk
    rw [Finset.mem_range] at hk
    rw [if_neg (by omega)]

/-- The samples up to the result's time add up to the target: the result's own time isn't drifted. -/
theorem samples_eq (b : Fin 2) (t : Fin 32) (ch : Fin 8) (y x : Fin 64) :
    sample x0 x1 b t.val ch y x t.val + ∑ k ∈ Finset.range t.val, sample x0 x1 b t.val ch y x k = target x0 x1 b t ch y x := by
  unfold target warped
  refine congrArg₂ (· + ·) ?_ (Finset.sum_congr rfl fun k hk => ?_)
  · unfold sample gap
    rw [sub_self, sub_self, colOf_zero, rowOf_zero, tap_at]
    unfold imageAt
    rw [time_val]
  · rw [Finset.mem_range] at hk
    unfold sample gap
    rw [drift_eq_sub _ (le_of_lt hk), drift_eq_sub _ (le_of_lt hk)]

/-- The sum over the times. -/
theorem total_apply (hf : Finite x0) (b : Fin 2) (t : Fin 32) (y x : Fin 64) (ch : Fin 8) :
    val_main_v200 (F := Ideal) x0 x1 (ix5 b t y x ch) = target x0 x1 b t ch y x := by
  have hidx : ∀ k : Fin 32, idx_main_v200 (ix5 b t y x ch) k = ix6 b t k y x ch := fun k => funext fun a =>
    match a with | ⟨0, _⟩ => rfl | ⟨1, _⟩ => rfl | ⟨2, _⟩ => rfl | ⟨3, _⟩ => rfl | ⟨4, _⟩ => rfl | ⟨5, _⟩ => rfl
  rw [val_main_v200_apply, val_main_cst_58_apply, Ideal.ofBits_def, bits_zero, EReal.coe_zero, zero_add]
  simp only [hidx, term_apply x0 x1 hf]
  rw [sum_upto (sample x0 x1 b t.val ch y x) t, samples_eq]

/-- The result is the target. -/
theorem result_eq (hf : Finite x0) :
    val_main_v202 (F := Ideal) x0 x1
      = fun j : S2x32x8x4096.Idx => target x0 x1 (j 0) (j 1) (j 2) (rowP (j 3)) (colP (j 3)) := by
  funext j
  obtain ⟨b, t, ch, p, rfl⟩ : ∃ (b : Fin 2) (t : Fin 32) (ch : Fin 8) (p : Fin 4096), j = ix4 b t ch p :=
    ⟨j 0, j 1, j 2, j 3, eq_ix4 j⟩
  show val_main_v202 (F := Ideal) x0 x1 (ix4 b t ch p) = target x0 x1 b t ch (rowP p) (colP p)
  have h : val_main_v202 (F := Ideal) x0 x1 (ix4 b t ch p) = val_main_v201 (F := Ideal) x0 x1 (ix5 b t ch (rowP p) (colP p)) := by
    unfold val_main_v202
    generalize val_main_v201 (F := Ideal) x0 x1 = v
    refine shapeCast_apply _ _ _ _ ?_
    rw [Shape.rowMajor_val_five, Shape.rowMajor_val_four]
    show (((b.val * 32 + t.val) * 8 + ch.val) * 64 + p.val / 64) * 64 + p.val % 64 = ((b.val * 32 + t.val) * 8 + ch.val) * 4096 + p.val
    omega
  rw [h, val_main_v201_apply]
  have hidx : idx_main_v201 (ix5 b t ch (rowP p) (colP p)) = ix5 b t (rowP p) (colP p) ch := funext fun a =>
    match a with | ⟨0, _⟩ => rfl | ⟨1, _⟩ => rfl | ⟨2, _⟩ => rfl | ⟨3, _⟩ => rfl | ⟨4, _⟩ => rfl
  rw [hidx, total_apply x0 x1 hf]

end Cert.Warp.Ref

end
-- ==== Proof.Equal.lean ====
module

public import proofs.«01_k».proof.Defs
public import proofs.«01_k».proof.Proof.Condition
public import proofs.«01_k».proof.Proof.Kernel.Array
public import proofs.«01_k».proof.Proof.Reference.Result
public import Idealize.ShloMosaic.Lib.Quiescent
public import Idealize.ShloMosaic.Lib.Claim

/-!
The claims about the reference and about the two programs together.
-/

@[expose] public section

noncomputable section

open Idealize.ShloMosaic Idealize.ShloMosaic.TcCoe Idealize.ShloMosaic.StableHlo Idealize.SL.Sem

namespace Cert.Warp

/-- The reference ends, its arguments unchanged and its counters zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- From the same finite flows and the same images, the kernel and the reference end with the same result. -/
theorem algebraic : Cert.algebraic_KernelIdeal_ReferenceIdeal_pre_finite_flows (hKernelIdeal := Cert.KernelIdeal.Gen.facts)
    (hReferenceIdeal := Cert.ReferenceIdeal.Gen.facts) (hPre_finite_flows := condition_facts) := by
  intro m ρ m' ρ' hpre hagree
  have hf : ∀ c, Finite (Cert.KernelIdeal.Result.flows m c) := fun c =>
    letI := condition_facts
    finite_of_condition _ _ (hpre c)
  refine ⟨fun c => Cert.KernelIdeal.Result.result m c, ?_, ?_⟩
  · exact (θ_run Cert.KernelIdeal.defs _ _).mono (fun _ h c => ⟨(h c).1.trans (Cert.KernelIdeal.Result.final m c (hf c)), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    refine (Cert.ReferenceIdeal.Read.val_main_v202_eq (F := Ideal) (launchContents m' c)).trans ?_
    have h0 : launchContents m' c (Proc.devRef .tc Cert.ReferenceIdeal.main_arg0) = Cert.KernelIdeal.Result.flows m c :=
      (launchContents_devRef m' c _).trans (hagree c).1
    have h1 : launchContents m' c (Proc.devRef .tc Cert.ReferenceIdeal.main_arg1) = Cert.KernelIdeal.Result.images m c :=
      (launchContents_devRef m' c _).trans (hagree c).2
    rw [h0, h1, Ref.result_eq _ _ (hf c)]
    rfl

end Cert.Warp

end
-- ==== Proof.lean ====
/-
The proof of `Cert.Claim`: each program ends with its arguments unchanged and its counters at zero, the idealized
kernel preserves the kernel, and from finite flows the idealized kernel and the idealized reference end with the
same result. The modules under `proof/Proof/` prove the parts; this one puts them together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Condition
public import proofs.«01_k».proof.Proof.Equal

@[expose] public section

noncomputable section

namespace Cert.Proof

open Idealize.ShloMosaic Idealize.SL.Sem Cert.Kernel

/-- The five claims hold, the frames of the idealized programs with the precondition and without it. -/
theorem claim : Cert.Claim := ⟨Cert.Kernel.Gen.facts, Cert.KernelIdeal.Gen.facts, Cert.ReferenceIdeal.Gen.facts, Cert.Warp.condition_facts,
  fun m ρ _ => Cert.Kernel.Gen.frame m ρ, fun m ρ _ => Cert.KernelIdeal.Gen.frame m ρ, fun m ρ _ => Cert.KernelIdeal.Gen.frame m ρ,
  fun m ρ _ => Cert.Warp.frame_reference m ρ, fun m ρ _ => Cert.Warp.frame_reference m ρ, trivial, Cert.Warp.algebraic⟩

end Cert.Proof

end
